-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S16384x2048 : Shape := ⟨2, ![16384, 2048]⟩
abbrev S8x688x1024 : Shape := ⟨3, ![8, 688, 1024]⟩
abbrev S8x672x1024 : Shape := ⟨3, ![8, 672, 1024]⟩
abbrev S688x2048 : Shape := ⟨2, ![688, 2048]⟩
abbrev S672x2048 : Shape := ⟨2, ![672, 2048]⟩
abbrev S3x3x5 : Shape := ⟨3, ![3, 3, 5]⟩
abbrev S3 : Shape := ⟨1, ![3]⟩
abbrev S_ : Shape := ⟨0, ![]⟩
abbrev S1x1x1 : Shape := ⟨3, ![1, 1, 1]⟩
abbrev S1x688x1024 : Shape := ⟨3, ![1, 688, 1024]⟩
abbrev S688x1024 : Shape := ⟨2, ![688, 1024]⟩
abbrev S1x672x1024 : Shape := ⟨3, ![1, 672, 1024]⟩
abbrev S672x1024 : Shape := ⟨2, ![672, 1024]⟩
abbrev S1 : Shape := ⟨1, ![1]⟩
abbrev S1x344x1024 : Shape := ⟨3, ![1, 344, 1024]⟩
abbrev S344x1024 : Shape := ⟨2, ![344, 1024]⟩
abbrev S1x336x1024 : Shape := ⟨3, ![1, 336, 1024]⟩
abbrev S336x1024 : Shape := ⟨2, ![336, 1024]⟩
abbrev S344x2048 : Shape := ⟨2, ![344, 2048]⟩
abbrev S336x2048 : Shape := ⟨2, ![336, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S16384x2048, .bf16⟩
  | .local _ .vmem, ⟨0, _⟩ => ⟨S2048x1024, .bf16⟩
  | .local _ .vmem, ⟨1, _⟩ => ⟨S1024x2048, .bf16⟩
  | .local _ .vmem, ⟨2, _⟩ => ⟨S8x688x1024, .bf16⟩
  | .local _ .vmem, ⟨3, _⟩ => ⟨S8x688x1024, .bf16⟩
  | .local _ .vmem, ⟨4, _⟩ => ⟨S8x672x1024, .bf16⟩
  | .local _ .vmem, ⟨5, _⟩ => ⟨S688x2048, .bf16⟩
  | .local _ .vmem, ⟨6, _⟩ => ⟨S688x2048, .bf16⟩
  | .local _ .vmem, ⟨7, _⟩ => ⟨S672x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  (ofTc nBuf bufTy 1 95 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.xori v2 c1_i32_10
  let c1_i32_18 : BitVec 32 := 1#32
  let v14 : BitVec 32 := Scalar.muli v13 c1_i32_18
  let v15 : BitVec 32 := Scalar.addi c0_i32_19 v14
  v15.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_24 : BitVec 32 := 3#32
  let v23 : BitVec 32 := Scalar.xori v2 c3_i32_24
  let c1_i32_32 : BitVec 32 := 1#32
  let v24 : BitVec 32 := Scalar.muli v23 c1_i32_32
  let v25 : BitVec 32 := Scalar.addi c0_i32_33 v24
  v25.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v33 : BitVec 32 := Scalar.xori v2 c4_i32_37
  let c1_i32_44 : BitVec 32 := 1#32
  let v34 : BitVec 32 := Scalar.muli v33 c1_i32_44
  let v35 : BitVec 32 := Scalar.addi c0_i32_45 v34
  v35.toNat
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_49 : BitVec 32 := 3#32
  let v43 : BitVec 32 := Scalar.xori v2 c3_i32_49
  let c1_i32_57 : BitVec 32 := 1#32
  let v44 : BitVec 32 := Scalar.muli v43 c1_i32_57
  let v45 : BitVec 32 := Scalar.addi c0_i32_58 v44
  v45.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v53 : BitVec 32 := Scalar.xori v2 c4_i32_63
  let c1_i32_71 : BitVec 32 := 1#32
  let v54 : BitVec 32 := Scalar.muli v53 c1_i32_71
  let v55 : BitVec 32 := Scalar.addi c0_i32_72 v54
  v55.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v63 : BitVec 32 := Scalar.xori v2 c1_i32_77
  let c1_i32_85 : BitVec 32 := 1#32
  let v64 : BitVec 32 := Scalar.muli v63 c1_i32_85
  let v65 : BitVec 32 := Scalar.addi c0_i32_86 v64
  v65.toNat
def k0_off1 (d0 : Dev nD) (c0_i32_91 : BitVec 32) (c0_i32_99 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.xori v2 c0_i32_91
  let c2048_i32 : BitVec 32 := 2048#32
  let v84 : BitVec 32 := Scalar.muli v73 c2048_i32
  let v85 : BitVec 32 := Scalar.addi v84 c0_i32_99
  let c0_i32_100 : BitVec 32 := 0#32
  let v86 : BitVec 32 := Scalar.addi v85 c0_i32_100
  let c0_i32_102 : BitVec 32 := 0#32
  ![v86.toNat, 0]
def k0_off1_at (r : Fin 14) : BitVec 32 × BitVec 32 :=
  if r.val < 7 then
    if r.val < 3 then
      if r.val < 1 then
        (0#32, 0#32)
      else
        if r.val < 2 then
          (0#32, 688#32)
        else
          (1#32, 0#32)
    else
      if r.val < 5 then
        if r.val < 4 then
          (3#32, 688#32)
        else
          (3#32, 0#32)
      else
        if r.val < 6 then
          (2#32, 0#32)
        else
          (4#32, 688#32)
  else
    if r.val < 10 then
      if r.val < 8 then
        (7#32, 688#32)
      else
        if r.val < 9 then
          (4#32, 0#32)
        else
          (1#32, 688#32)
    else
      if r.val < 12 then
        if r.val < 11 then
          (5#32, 0#32)
        else
          (2#32, 688#32)
      else
        if r.val < 13 then
          (7#32, 0#32)
        else
          (5#32, 688#32)
def k0_off2 (d0 : Dev nD) (c0_i32_122 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : BitVec 32 := Scalar.xori v2 c0_i32_122
  let c2048_i32_132 : BitVec 32 := 2048#32
  let v120 : BitVec 32 := Scalar.muli v109 c2048_i32_132
  let c1376_i32_133 : BitVec 32 := 1376#32
  let v121 : BitVec 32 := Scalar.addi v120 c1376_i32_133
  let c0_i32_134 : BitVec 32 := 0#32
  let v122 : BitVec 32 := Scalar.addi v121 c0_i32_134
  let c0_i32_136 : BitVec 32 := 0#32
  ![v122.toNat, 0]
def k0_off2_at (r : Fin 7) : BitVec 32 :=
  if r.val < 3 then
    if r.val < 1 then
      0#32
    else
      if r.val < 2 then
        4#32
      else
        1#32
  else
    if r.val < 5 then
      if r.val < 4 then
        5#32
      else
        3#32
    else
      if r.val < 6 then
        7#32
      else
        2#32
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_217 : BitVec 32 := 3#32
  let v166 : BitVec 32 := Scalar.xori v2 c3_i32_217
  let c1_i32_226 : BitVec 32 := 1#32
  let v167 : BitVec 32 := Scalar.muli v166 c1_i32_226
  let v168 : BitVec 32 := Scalar.addi c0_i32_227 v167
  v168.toNat
def k0_dev11 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_232 : BitVec 32 := 4#32
  let v177 : BitVec 32 := Scalar.xori v2 c4_i32_232
  let c1_i32_241 : BitVec 32 := 1#32
  let v178 : BitVec 32 := Scalar.muli v177 c1_i32_241
  let v179 : BitVec 32 := Scalar.addi c0_i32_242 v178
  v179.toNat
def k0_dev12 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_247 : BitVec 32 := 1#32
  let v188 : BitVec 32 := Scalar.xori v2 c1_i32_247
  let c1_i32_256 : BitVec 32 := 1#32
  let v189 : BitVec 32 := Scalar.muli v188 c1_i32_256
  let v190 : BitVec 32 := Scalar.addi c0_i32_257 v189
  v190.toNat
def k0_dev13 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_262 : BitVec 32 := 4#32
  let v199 : BitVec 32 := Scalar.xori v2 c4_i32_262
  let c1_i32_270 : BitVec 32 := 1#32
  let v200 : BitVec 32 := Scalar.muli v199 c1_i32_270
  let v201 : BitVec 32 := Scalar.addi c0_i32_271 v200
  v201.toNat
def k0_dev14 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_276 : BitVec 32 := 4#32
  let v209 : BitVec 32 := Scalar.xori v2 c4_i32_276
  let c1_i32_284 : BitVec 32 := 1#32
  let v210 : BitVec 32 := Scalar.muli v209 c1_i32_284
  let v211 : BitVec 32 := Scalar.addi c0_i32_285 v210
  v211.toNat
def k0_dev15 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_290 : BitVec 32 := 1#32
  let v220 : BitVec 32 := Scalar.xori v2 c1_i32_290
  let c1_i32_298 : BitVec 32 := 1#32
  let v221 : BitVec 32 := Scalar.muli v220 c1_i32_298
  let v222 : BitVec 32 := Scalar.addi c0_i32_299 v221
  v222.toNat
def k0_dev16 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_304 : BitVec 32 := 1#32
  let v230 : BitVec 32 := Scalar.xori v2 c1_i32_304
  let c1_i32_313 : BitVec 32 := 1#32
  let v231 : BitVec 32 := Scalar.muli v230 c1_i32_313
  let v232 : BitVec 32 := Scalar.addi c0_i32_314 v231
  v232.toNat
def k0_dev17 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_319 : BitVec 32 := 3#32
  let v241 : BitVec 32 := Scalar.xori v2 c3_i32_319
  let c1_i32_327 : BitVec 32 := 1#32
  let v242 : BitVec 32 := Scalar.muli v241 c1_i32_327
  let v243 : BitVec 32 := Scalar.addi c0_i32_328 v242
  v243.toNat
def k0_dev18 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_333 : BitVec 32 := 3#32
  let v251 : BitVec 32 := Scalar.xori v2 c3_i32_333
  let c1_i32_342 : BitVec 32 := 1#32
  let v252 : BitVec 32 := Scalar.muli v251 c1_i32_342
  let v253 : BitVec 32 := Scalar.addi c0_i32_343 v252
  v253.toNat
def k0_dev19 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_576 : BitVec 32 := 4#32
  let v412 : BitVec 32 := Scalar.xori v2 c4_i32_576
  let c1_i32_584 : BitVec 32 := 1#32
  let v413 : BitVec 32 := Scalar.muli v412 c1_i32_584
  let v414 : BitVec 32 := Scalar.addi c0_i32_585 v413
  v414.toNat
def k0_dev20 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_590 : BitVec 32 := 4#32
  let v423 : BitVec 32 := Scalar.xori v2 c4_i32_590
  let c1_i32_598 : BitVec 32 := 1#32
  let v424 : BitVec 32 := Scalar.muli v423 c1_i32_598
  let v425 : BitVec 32 := Scalar.addi c0_i32_599 v424
  v425.toNat
def k0_dev21 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_604 : BitVec 32 := 4#32
  let v434 : BitVec 32 := Scalar.xori v2 c4_i32_604
  let c1_i32_613 : BitVec 32 := 1#32
  let v435 : BitVec 32 := Scalar.muli v434 c1_i32_613
  let v436 : BitVec 32 := Scalar.addi c0_i32_614 v435
  v436.toNat
def k0_dev22 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_618 : BitVec 32 := 1#32
  let v445 : BitVec 32 := Scalar.xori v2 c1_i32_618
  let c1_i32_627 : BitVec 32 := 1#32
  let v446 : BitVec 32 := Scalar.muli v445 c1_i32_627
  let v447 : BitVec 32 := Scalar.addi c0_i32_628 v446
  v447.toNat
def k0_dev23 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_633 : BitVec 32 := 1#32
  let v456 : BitVec 32 := Scalar.xori v2 c1_i32_633
  let c1_i32_642 : BitVec 32 := 1#32
  let v457 : BitVec 32 := Scalar.muli v456 c1_i32_642
  let v458 : BitVec 32 := Scalar.addi c0_i32_643 v457
  v458.toNat
def k0_dev24 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_648 : BitVec 32 := 1#32
  let v467 : BitVec 32 := Scalar.xori v2 c1_i32_648
  let c1_i32_657 : BitVec 32 := 1#32
  let v468 : BitVec 32 := Scalar.muli v467 c1_i32_657
  let v469 : BitVec 32 := Scalar.addi c0_i32_658 v468
  v469.toNat
def k0_dev25 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_663 : BitVec 32 := 3#32
  let v478 : BitVec 32 := Scalar.xori v2 c3_i32_663
  let c1_i32_672 : BitVec 32 := 1#32
  let v479 : BitVec 32 := Scalar.muli v478 c1_i32_672
  let v480 : BitVec 32 := Scalar.addi c0_i32_673 v479
  v480.toNat
def k0_dev26 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_678 : BitVec 32 := 3#32
  let v489 : BitVec 32 := Scalar.xori v2 c3_i32_678
  let c1_i32_687 : BitVec 32 := 1#32
  let v490 : BitVec 32 := Scalar.muli v489 c1_i32_687
  let v491 : BitVec 32 := Scalar.addi c0_i32_688 v490
  v491.toNat
def k0_dev27 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_693 : BitVec 32 := 3#32
  let v500 : BitVec 32 := Scalar.xori v2 c3_i32_693
  let c1_i32_702 : BitVec 32 := 1#32
  let v501 : BitVec 32 := Scalar.muli v500 c1_i32_702
  let v502 : BitVec 32 := Scalar.addi c0_i32_703 v501
  v502.toNat
def k0_off3 (d0 : Dev nD) (c0_i32_1383 : BitVec 32) (c0_i32_1384 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1367 : BitVec 32 := 6#32
  let v1015 : BitVec 32 := Scalar.xori v2 c6_i32_1367
  let c2048_i32_1382 : BitVec 32 := 2048#32
  let v1030 : BitVec 32 := Scalar.muli v1015 c2048_i32_1382
  let v1031 : BitVec 32 := Scalar.addi v1030 c0_i32_1383
  let v1032 : BitVec 32 := Scalar.addi v1031 c0_i32_1384
  let c0_i32_1386 : BitVec 32 := 0#32
  ![v1032.toNat, 0]
def k0_off4 (d0 : Dev nD) (c0_i32_1428 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1411 : BitVec 32 := 6#32
  let v1059 : BitVec 32 := Scalar.xori v2 c6_i32_1411
  let c2048_i32_1426 : BitVec 32 := 2048#32
  let v1074 : BitVec 32 := Scalar.muli v1059 c2048_i32_1426
  let c1376_i32_1427 : BitVec 32 := 1376#32
  let v1075 : BitVec 32 := Scalar.addi v1074 c1376_i32_1427
  let v1076 : BitVec 32 := Scalar.addi v1075 c0_i32_1428
  let c0_i32_1430 : BitVec 32 := 0#32
  ![v1076.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x2048, .f32⟩
  | .hbm, ⟨3, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Tables.lean ====
/- The kernel's text as tables: which views its 24 messages and its 27 computed pieces use, and the order of its steps. -/
module

public import proofs.«01_k».proof.Proof.Gen.KernelIdeal.Skeleton
public import proofs.«01_k».proof.Proof.Gen.KernelIdeal.Points
public import Idealize.ShloMosaic.Lib.ValueIdxCore

@[expose] public section

noncomputable section

namespace Cert.KernelIdeal.Gather

open Idealize.ShloMosaic Idealize.ShloMosaic.TcCoe Idealize.SL.RA Idealize.SL.Sem
open Idealize.ShloMosaic.ValueIdx (ix2)
open Cert.KernelIdeal Cert.KernelIdeal.Gen

/-! ## Buffers and views -/

/-- A device's own block of `A`. -/
abbrev blkA : Memref sig .tc .vmem S2048x1024 .bf16 := Memref.whole cc0_stg0_0
/-- The device's copy of `B`. -/
abbrev matB : Memref sig .tc .vmem S1024x2048 .bf16 := Memref.whole cc0_stg1_0
/-- The result. -/
abbrev res : Memref sig .tc .hbm S16384x2048 .bf16 := Memref.whole main_v1
/-- The gather buffers: eight slots of one row group each. -/
abbrev gat0 : Memref sig .tc .vmem S8x688x1024 .bf16 := Memref.whole cc0_scratch0
abbrev gat1 : Memref sig .tc .vmem S8x688x1024 .bf16 := Memref.whole cc0_scratch1
abbrev gat2 : Memref sig .tc .vmem S8x672x1024 .bf16 := Memref.whole cc0_scratch2
/-- The buffers a product is written to before it is copied out. -/
abbrev cbuf0 : Memref sig .tc .vmem S688x2048 .bf16 := Memref.whole cc0_scratch3
abbrev cbuf1 : Memref sig .tc .vmem S688x2048 .bf16 := Memref.whole cc0_scratch4
abbrev cbuf2 : Memref sig .tc .vmem S672x2048 .bf16 := Memref.whole cc0_scratch5

/-- The rows of a device's own block of `A` that row group 0 covers. -/
abbrev own0 : Memref sig .tc .vmem S688x1024 .bf16 :=
  blkA.slice (Rect.unit (s := S2048x1024) ![0, 0] S688x1024.size inb_S2048x1024_S688x1024_0_0) (fun _ => rfl)
/-- The view covers whole words. -/
theorem own0_words : (own0).view.WordExact := (Memref.isWhole_whole _).wordExact_slice rfl _ wordsbf16_S2048x1024_S688x1024_0_0
/-- Slot 1 of gather buffer 0. -/
abbrev slot0_1 : Memref sig .tc .vmem S688x1024 .bf16 :=
  (gat0.slice (Rect.unit (s := S8x688x1024) ![1, 0, 0] S1x688x1024.size inb_S8x688x1024_S1x688x1024_1_0_0) (fun _ => rfl)).squeeze S688x1024 squeezes_S1x688x1024_S688x1024
/-- The view covers whole words. -/
theorem slot0_1_words : (slot0_1).view.WordExact := ((Memref.isWhole_whole _).wordExact_slice rfl _ wordsbf16_S8x688x1024_S1x688x1024_1_0_0).reshape _ _
/-- Slot 2 of gather buffer 0. -/
abbrev slot0_2 : Memref sig .tc .vmem S688x1024 .bf16 :=
  (gat0.slice (Rect.unit (s := S8x688x1024) ![2, 0, 0] S1x688x1024.size inb_S8x688x1024_S1x688x1024_2_0_0) (fun _ => rfl)).squeeze S688x1024 squeezes_S1x688x1024_S688x1024
/-- The view covers whole words. -/
theorem slot0_2_words : (slot0_2).view.WordExact := ((Memref.isWhole_whole _).wordExact_slice rfl _ wordsbf16_S8x688x1024_S1x688x1024_2_0_0).reshape _ _
/-- Slot 3 of gather buffer 0. -/
abbrev slot0_3 : Memref sig .tc .vmem S688x1024 .bf16 :=
  (gat0.slice (Rect.unit (s := S8x688x1024) ![3, 0, 0] S1x688x1024.size inb_S8x688x1024_S1x688x1024_3_0_0) (fun _ => rfl)).squeeze S688x1024 squeezes_S1x688x1024_S688x1024
/-- The view covers whole words. -/
theorem slot0_3_words : (slot0_3).view.WordExact := ((Memref.isWhole_whole _).wordExact_slice rfl _ wordsbf16_S8x688x1024_S1x688x1024_3_0_0).reshape _ _
/-- Slot 4 of gather buffer 0. -/
abbrev slot0_4 : Memref sig .tc .vmem S688x1024 .bf16 :=
  (gat0.slice (Rect.unit (s := S8x688x1024) ![4, 0, 0] S1x688x1024.size inb_S8x688x1024_S1x688x1024_4_0_0) (fun _ => rfl)).squeeze S688x1024 squeezes_S1x688x1024_S688x1024
/-- The view covers whole words. -/
theorem slot0_4_words : (slot0_4).view.WordExact := ((Memref.isWhole_whole _).wordExact_slice rfl _ wordsbf16_S8x688x1024_S1x688x1024_4_0_0).reshape _ _
/-- Slot 5 of gather buffer 0. -/
abbrev slot0_5 : Memref sig .tc .vmem S688x1024 .bf16 :=
  (gat0.slice (Rect.unit (s := S8x688x1024) ![5, 0, 0] S1x688x1024.size inb_S8x688x1024_S1x688x1024_5_0_0) (fun _ => rfl)).squeeze S688x1024 squeezes_S1x688x1024_S688x1024
/-- The view covers whole words. -/
theorem slot0_5_words : (slot0_5).view.WordExact := ((Memref.isWhole_whole _).wordExact_slice rfl _ wordsbf16_S8x688x1024_S1x688x1024_5_0_0).reshape _ _
/-- Slot 6 of gather buffer 0. -/
abbrev slot0_6 : Memref sig .tc .vmem S688x1024 .bf16 :=
  (gat0.slice (Rect.unit (s := S8x688x1024) ![6, 0, 0] S1x688x1024.size inb_S8x688x1024_S1x688x1024_6_0_0) (fun _ => rfl)).squeeze S688x1024 squeezes_S1x688x1024_S688x1024
/-- The view covers whole words. -/
theorem slot0_6_words : (slot0_6).view.WordExact := ((Memref.isWhole_whole _).wordExact_slice rfl _ wordsbf16_S8x688x1024_S1x688x1024_6_0_0).reshape _ _
/-- Slot 7 of gather buffer 0. -/
abbrev slot0_7 : Memref sig .tc .vmem S688x1024 .bf16 :=
  (gat0.slice (Rect.unit (s := S8x688x1024) ![7, 0, 0] S1x688x1024.size inb_S8x688x1024_S1x688x1024_7_0_0) (fun _ => rfl)).squeeze S688x1024 squeezes_S1x688x1024_S688x1024
/-- Half 0 of slot 3 of gather buffer 0. -/
abbrev half0_3_0 : Memref sig .tc .vmem S344x1024 .bf16 :=
  (gat0.slice (Rect.unit (s := S8x688x1024) ![3, 0, 0] S1x344x1024.size inb_S8x688x1024_S1x344x1024_3_0_0) (fun _ => rfl)).squeeze S344x1024 squeezes_S1x344x1024_S344x1024
/-- The view covers whole words. -/
theorem half0_3_0_words : (half0_3_0).view.WordExact := ((Memref.isWhole_whole _).wordExact_slice rfl _ wordsbf16_S8x688x1024_S1x344x1024_3_0_0).reshape _ _
/-- Half 1 of slot 3 of gather buffer 0. -/
abbrev half0_3_1 : Memref sig .tc .vmem S344x1024 .bf16 :=
  (gat0.slice (Rect.unit (s := S8x688x1024) ![3, 344, 0] S1x344x1024.size inb_S8x688x1024_S1x344x1024_3_344_0) (fun _ => rfl)).squeeze S344x1024 squeezes_S1x344x1024_S344x1024
/-- The view covers whole words. -/
theorem half0_3_1_words : (half0_3_1).view.WordExact := ((Memref.isWhole_whole _).wordExact_slice rfl _ wordsbf16_S8x688x1024_S1x344x1024_3_344_0).reshape _ _
/-- Half 0 of slot 7 of gather buffer 0. -/
abbrev half0_7_0 : Memref sig .tc .vmem S344x1024 .bf16 :=
  (gat0.slice (Rect.unit (s := S8x688x1024) ![7, 0, 0] S1x344x1024.size inb_S8x688x1024_S1x344x1024_7_0_0) (fun _ => rfl)).squeeze S344x1024 squeezes_S1x344x1024_S344x1024
/-- The view covers whole words. -/
theorem half0_7_0_words : (half0_7_0).view.WordExact := ((Memref.isWhole_whole _).wordExact_slice rfl _ wordsbf16_S8x688x1024_S1x344x1024_7_0_0).reshape _ _
/-- Half 1 of slot 7 of gather buffer 0. -/
abbrev half0_7_1 : Memref sig .tc .vmem S344x1024 .bf16 :=
  (gat0.slice (Rect.unit (s := S8x688x1024) ![7, 344, 0] S1x344x1024.size inb_S8x688x1024_S1x344x1024_7_344_0) (fun _ => rfl)).squeeze S344x1024 squeezes_S1x344x1024_S344x1024
/-- The view covers whole words. -/
theorem half0_7_1_words : (half0_7_1).view.WordExact := ((Memref.isWhole_whole _).wordExact_slice rfl _ wordsbf16_S8x688x1024_S1x344x1024_7_344_0).reshape _ _
/-- The rows of a device's own block of `A` that row group 1 covers. -/
abbrev own1 : Memref sig .tc .vmem S688x1024 .bf16 :=
  blkA.slice (Rect.unit (s := S2048x1024) ![688, 0] S688x1024.size inb_S2048x1024_S688x1024_688_0) (fun _ => rfl)
/-- The view covers whole words. -/
theorem own1_words : (own1).view.WordExact := (Memref.isWhole_whole _).wordExact_slice rfl _ wordsbf16_S2048x1024_S688x1024_688_0
/-- Slot 1 of gather buffer 1. -/
abbrev slot1_1 : Memref sig .tc .vmem S688x1024 .bf16 :=
  (gat1.slice (Rect.unit (s := S8x688x1024) ![1, 0, 0] S1x688x1024.size inb_S8x688x1024_S1x688x1024_1_0_0) (fun _ => rfl)).squeeze S688x1024 squeezes_S1x688x1024_S688x1024
/-- The view covers whole words. -/
theorem slot1_1_words : (slot1_1).view.WordExact := ((Memref.isWhole_whole _).wordExact_slice rfl _ wordsbf16_S8x688x1024_S1x688x1024_1_0_0).reshape _ _
/-- Slot 2 of gather buffer 1. -/
abbrev slot1_2 : Memref sig .tc .vmem S688x1024 .bf16 :=
  (gat1.slice (Rect.unit (s := S8x688x1024) ![2, 0, 0] S1x688x1024.size inb_S8x688x1024_S1x688x1024_2_0_0) (fun _ => rfl)).squeeze S688x1024 squeezes_S1x688x1024_S688x1024
/-- The view covers whole words. -/
theorem slot1_2_words : (slot1_2).view.WordExact := ((Memref.isWhole_whole _).wordExact_slice rfl _ wordsbf16_S8x688x1024_S1x688x1024_2_0_0).reshape _ _
/-- Slot 3 of gather buffer 1. -/
abbrev slot1_3 : Memref sig .tc .vmem S688x1024 .bf16 :=
  (gat1.slice (Rect.unit (s := S8x688x1024) ![3, 0, 0] S1x688x1024.size inb_S8x688x1024_S1x688x1024_3_0_0) (fun _ => rfl)).squeeze S688x1024 squeezes_S1x688x1024_S688x1024
/-- The view covers whole words. -/
theorem slot1_3_words : (slot1_3).view.WordExact := ((Memref.isWhole_whole _).wordExact_slice rfl _ wordsbf16_S8x688x1024_S1x688x1024_3_0_0).reshape _ _
/-- Slot 4 of gather buffer 1. -/
abbrev slot1_4 : Memref sig .tc .vmem S688x1024 .bf16 :=
  (gat1.slice (Rect.unit (s := S8x688x1024) ![4, 0, 0] S1x688x1024.size inb_S8x688x1024_S1x688x1024_4_0_0) (fun _ => rfl)).squeeze S688x1024 squeezes_S1x688x1024_S688x1024
/-- The view covers whole words. -/
theorem slot1_4_words : (slot1_4).view.WordExact := ((Memref.isWhole_whole _).wordExact_slice rfl _ wordsbf16_S8x688x1024_S1x688x1024_4_0_0).reshape _ _
/-- Slot 5 of gather buffer 1. -/
abbrev slot1_5 : Memref sig .tc .vmem S688x1024 .bf16 :=
  (gat1.slice (Rect.unit (s := S8x688x1024) ![5, 0, 0] S1x688x1024.size inb_S8x688x1024_S1x688x1024_5_0_0) (fun _ => rfl)).squeeze S688x1024 squeezes_S1x688x1024_S688x1024
/-- The view covers whole words. -/
theorem slot1_5_words : (slot1_5).view.WordExact := ((Memref.isWhole_whole _).wordExact_slice rfl _ wordsbf16_S8x688x1024_S1x688x1024_5_0_0).reshape _ _
/-- Slot 6 of gather buffer 1. -/
abbrev slot1_6 : Memref sig .tc .vmem S688x1024 .bf16 :=
  (gat1.slice (Rect.unit (s := S8x688x1024) ![6, 0, 0] S1x688x1024.size inb_S8x688x1024_S1x688x1024_6_0_0) (fun _ => rfl)).squeeze S688x1024 squeezes_S1x688x1024_S688x1024
/-- The view covers whole words. -/
theorem slot1_6_words : (slot1_6).view.WordExact := ((Memref.isWhole_whole _).wordExact_slice rfl _ wordsbf16_S8x688x1024_S1x688x1024_6_0_0).reshape _ _
/-- Slot 7 of gather buffer 1. -/
abbrev slot1_7 : Memref sig .tc .vmem S688x1024 .bf16 :=
  (gat1.slice (Rect.unit (s := S8x688x1024) ![7, 0, 0] S1x688x1024.size inb_S8x688x1024_S1x688x1024_7_0_0) (fun _ => rfl)).squeeze S688x1024 squeezes_S1x688x1024_S688x1024
/-- Half 0 of slot 3 of gather buffer 1. -/
abbrev half1_3_0 : Memref sig .tc .vmem S344x1024 .bf16 :=
  (gat1.slice (Rect.unit (s := S8x688x1024) ![3, 0, 0] S1x344x1024.size inb_S8x688x1024_S1x344x1024_3_0_0) (fun _ => rfl)).squeeze S344x1024 squeezes_S1x344x1024_S344x1024
/-- The view covers whole words. -/
theorem half1_3_0_words : (half1_3_0).view.WordExact := ((Memref.isWhole_whole _).wordExact_slice rfl _ wordsbf16_S8x688x1024_S1x344x1024_3_0_0).reshape _ _
/-- Half 1 of slot 3 of gather buffer 1. -/
abbrev half1_3_1 : Memref sig .tc .vmem S344x1024 .bf16 :=
  (gat1.slice (Rect.unit (s := S8x688x1024) ![3, 344, 0] S1x344x1024.size inb_S8x688x1024_S1x344x1024_3_344_0) (fun _ => rfl)).squeeze S344x1024 squeezes_S1x344x1024_S344x1024
/-- The view covers whole words. -/
theorem half1_3_1_words : (half1_3_1).view.WordExact := ((Memref.isWhole_whole _).wordExact_slice rfl _ wordsbf16_S8x688x1024_S1x344x1024_3_344_0).reshape _ _
/-- Half 0 of slot 7 of gather buffer 1. -/
abbrev half1_7_0 : Memref sig .tc .vmem S344x1024 .bf16 :=
  (gat1.slice (Rect.unit (s := S8x688x1024) ![7, 0, 0] S1x344x1024.size inb_S8x688x1024_S1x344x1024_7_0_0) (fun _ => rfl)).squeeze S344x1024 squeezes_S1x344x1024_S344x1024
/-- The view covers whole words. -/
theorem half1_7_0_words : (half1_7_0).view.WordExact := ((Memref.isWhole_whole _).wordExact_slice rfl _ wordsbf16_S8x688x1024_S1x344x1024_7_0_0).reshape _ _
/-- Half 1 of slot 7 of gather buffer 1. -/
abbrev half1_7_1 : Memref sig .tc .vmem S344x1024 .bf16 :=
  (gat1.slice (Rect.unit (s := S8x688x1024) ![7, 344, 0] S1x344x1024.size inb_S8x688x1024_S1x344x1024_7_344_0) (fun _ => rfl)).squeeze S344x1024 squeezes_S1x344x1024_S344x1024
/-- The view covers whole words. -/
theorem half1_7_1_words : (half1_7_1).view.WordExact := ((Memref.isWhole_whole _).wordExact_slice rfl _ wordsbf16_S8x688x1024_S1x344x1024_7_344_0).reshape _ _
/-- The rows of a device's own block of `A` that row group 2 covers. -/
abbrev own2 : Memref sig .tc .vmem S672x1024 .bf16 :=
  blkA.slice (Rect.unit (s := S2048x1024) ![1376, 0] S672x1024.size inb_S2048x1024_S672x1024_1376_0) (fun _ => rfl)
/-- The view covers whole words. -/
theorem own2_words : (own2).view.WordExact := (Memref.isWhole_whole _).wordExact_slice rfl _ wordsbf16_S2048x1024_S672x1024_1376_0
/-- Slot 1 of gather buffer 2. -/
abbrev slot2_1 : Memref sig .tc .vmem S672x1024 .bf16 :=
  (gat2.slice (Rect.unit (s := S8x672x1024) ![1, 0, 0] S1x672x1024.size inb_S8x672x1024_S1x672x1024_1_0_0) (fun _ => rfl)).squeeze S672x1024 squeezes_S1x672x1024_S672x1024
/-- The view covers whole words. -/
theorem slot2_1_words : (slot2_1).view.WordExact := ((Memref.isWhole_whole _).wordExact_slice rfl _ wordsbf16_S8x672x1024_S1x672x1024_1_0_0).reshape _ _
/-- Slot 2 of gather buffer 2. -/
abbrev slot2_2 : Memref sig .tc .vmem S672x1024 .bf16 :=
  (gat2.slice (Rect.unit (s := S8x672x1024) ![2, 0, 0] S1x672x1024.size inb_S8x672x1024_S1x672x1024_2_0_0) (fun _ => rfl)).squeeze S672x1024 squeezes_S1x672x1024_S672x1024
/-- The view covers whole words. -/
theorem slot2_2_words : (slot2_2).view.WordExact := ((Memref.isWhole_whole _).wordExact_slice rfl _ wordsbf16_S8x672x1024_S1x672x1024_2_0_0).reshape _ _
/-- Slot 3 of gather buffer 2. -/
abbrev slot2_3 : Memref sig .tc .vmem S672x1024 .bf16 :=
  (gat2.slice (Rect.unit (s := S8x672x1024) ![3, 0, 0] S1x672x1024.size inb_S8x672x1024_S1x672x1024_3_0_0) (fun _ => rfl)).squeeze S672x1024 squeezes_S1x672x1024_S672x1024
/-- The view covers whole words. -/
theorem slot2_3_words : (slot2_3).view.WordExact := ((Memref.isWhole_whole _).wordExact_slice rfl _ wordsbf16_S8x672x1024_S1x672x1024_3_0_0).reshape _ _
/-- Slot 4 of gather buffer 2. -/
abbrev slot2_4 : Memref sig .tc .vmem S672x1024 .bf16 :=
  (gat2.slice (Rect.unit (s := S8x672x1024) ![4, 0, 0] S1x672x1024.size inb_S8x672x1024_S1x672x1024_4_0_0) (fun _ => rfl)).squeeze S672x1024 squeezes_S1x672x1024_S672x1024
/-- The view covers whole words. -/
theorem slot2_4_words : (slot2_4).view.WordExact := ((Memref.isWhole_whole _).wordExact_slice rfl _ wordsbf16_S8x672x1024_S1x672x1024_4_0_0).reshape _ _
/-- Slot 5 of gather buffer 2. -/
abbrev slot2_5 : Memref sig .tc .vmem S672x1024 .bf16 :=
  (gat2.slice (Rect.unit (s := S8x672x1024) ![5, 0, 0] S1x672x1024.size inb_S8x672x1024_S1x672x1024_5_0_0) (fun _ => rfl)).squeeze S672x1024 squeezes_S1x672x1024_S672x1024
/-- The view covers whole words. -/
theorem slot2_5_words : (slot2_5).view.WordExact := ((Memref.isWhole_whole _).wordExact_slice rfl _ wordsbf16_S8x672x1024_S1x672x1024_5_0_0).reshape _ _
/-- Slot 6 of gather buffer 2. -/
abbrev slot2_6 : Memref sig .tc .vmem S672x1024 .bf16 :=
  (gat2.slice (Rect.unit (s := S8x672x1024) ![6, 0, 0] S1x672x1024.size inb_S8x672x1024_S1x672x1024_6_0_0) (fun _ => rfl)).squeeze S672x1024 squeezes_S1x672x1024_S672x1024
/-- The view covers whole words. -/
theorem slot2_6_words : (slot2_6).view.WordExact := ((Memref.isWhole_whole _).wordExact_slice rfl _ wordsbf16_S8x672x1024_S1x672x1024_6_0_0).reshape _ _
/-- Slot 7 of gather buffer 2. -/
abbrev slot2_7 : Memref sig .tc .vmem S672x1024 .bf16 :=
  (gat2.slice (Rect.unit (s := S8x672x1024) ![7, 0, 0] S1x672x1024.size inb_S8x672x1024_S1x672x1024_7_0_0) (fun _ => rfl)).squeeze S672x1024 squeezes_S1x672x1024_S672x1024
/-- Half 0 of slot 3 of gather buffer 2. -/
abbrev half2_3_0 : Memref sig .tc .vmem S336x1024 .bf16 :=
  (gat2.slice (Rect.unit (s := S8x672x1024) ![3, 0, 0] S1x336x1024.size inb_S8x672x1024_S1x336x1024_3_0_0) (fun _ => rfl)).squeeze S336x1024 squeezes_S1x336x1024_S336x1024
/-- The view covers whole words. -/
theorem half2_3_0_words : (half2_3_0).view.WordExact := ((Memref.isWhole_whole _).wordExact_slice rfl _ wordsbf16_S8x672x1024_S1x336x1024_3_0_0).reshape _ _
/-- Half 1 of slot 3 of gather buffer 2. -/
abbrev half2_3_1 : Memref sig .tc .vmem S336x1024 .bf16 :=
  (gat2.slice (Rect.unit (s := S8x672x1024) ![3, 336, 0] S1x336x1024.size inb_S8x672x1024_S1x336x1024_3_336_0) (fun _ => rfl)).squeeze S336x1024 squeezes_S1x336x1024_S336x1024
/-- The view covers whole words. -/
theorem half2_3_1_words : (half2_3_1).view.WordExact := ((Memref.isWhole_whole _).wordExact_slice rfl _ wordsbf16_S8x672x1024_S1x336x1024_3_336_0).reshape _ _
/-- Half 0 of slot 7 of gather buffer 2. -/
abbrev half2_7_0 : Memref sig .tc .vmem S336x1024 .bf16 :=
  (gat2.slice (Rect.unit (s := S8x672x1024) ![7, 0, 0] S1x336x1024.size inb_S8x672x1024_S1x336x1024_7_0_0) (fun _ => rfl)).squeeze S336x1024 squeezes_S1x336x1024_S336x1024
/-- The view covers whole words. -/
theorem half2_7_0_words : (half2_7_0).view.WordExact := ((Memref.isWhole_whole _).wordExact_slice rfl _ wordsbf16_S8x672x1024_S1x336x1024_7_0_0).reshape _ _
/-- Half 1 of slot 7 of gather buffer 2. -/
abbrev half2_7_1 : Memref sig .tc .vmem S336x1024 .bf16 :=
  (gat2.slice (Rect.unit (s := S8x672x1024) ![7, 336, 0] S1x336x1024.size inb_S8x672x1024_S1x336x1024_7_336_0) (fun _ => rfl)).squeeze S336x1024 squeezes_S1x336x1024_S336x1024
/-- The view covers whole words. -/
theorem half2_7_1_words : (half2_7_1).view.WordExact := ((Memref.isWhole_whole _).wordExact_slice rfl _ wordsbf16_S8x672x1024_S1x336x1024_7_336_0).reshape _ _

/-! ## Contents -/

/-- What a gather buffer holds when every block has arrived: slot `r` at device `c` holds rows `r0, r0 + 1, …` of the block
    of the device `c ^^^ offs r`. -/
def gath {F : FTy → Type} {n : ℕ} (offs : Fin 8 → Dev nD) (r0 : ℕ) (h : r0 + n ≤ 2048)
    (A : Dev nD → S2048x1024.Idx → Elt F .bf16) (c : Dev nD) : (⟨3, ![8, n, 1024]⟩ : Shape).Idx → Elt F .bf16 :=
  fun ix => A (c ^^^ offs (ix 0)) (ix2 ⟨r0 + (ix 1).val, lt_of_lt_of_le (Nat.add_lt_add_left (ix 1).isLt r0) h⟩ (ix 2))

/-- Which device's block each slot holds, for each row group. -/
def offs0 : Fin 8 → Dev nD := ![0, 1, 3, 2, 4, 5, 7, 6]
def offs1 : Fin 8 → Dev nD := ![0, 3, 4, 7, 1, 2, 5, 6]
def offs2 : Fin 8 → Dev nD := ![0, 4, 1, 5, 3, 7, 2, 6]

/-- The contents of the three gather buffers. -/
def gatC0 {F : FTy → Type} (A : Dev nD → S2048x1024.Idx → Elt F .bf16) (c : Dev nD) : gat0.view.ty.Contents (Elt F) :=
  gath (n := 688) offs0 0 (by decide) A c
def gatC1 {F : FTy → Type} (A : Dev nD → S2048x1024.Idx → Elt F .bf16) (c : Dev nD) : gat1.view.ty.Contents (Elt F) :=
  gath (n := 688) offs1 688 (by decide) A c
def gatC2 {F : FTy → Type} (A : Dev nD → S2048x1024.Idx → Elt F .bf16) (c : Dev nD) : gat2.view.ty.Contents (Elt F) :=
  gath (n := 672) offs2 1376 (by decide) A c

/-! ## Messages -/

/-- One remote copy: its views, its semaphores and the device it goes to; the share of the source it reads through, and
    the contents of the two buffers once the copies into them have landed. -/
structure Msg where
  s : Shape
  src : Memref sig .tc .vmem s .bf16
  dst : Memref sig .tc .vmem s .bf16
  sS : DmaSem sig
  sR : DmaSem sig
  hsrc : src.view.WordExact
  hdst : dst.view.WordExact
  hsc : dst.view.ref.isScScratch = false := by first | exact rfl | decide
  peer : Dev nD → Dev nD
  q : PosShare TreeShare
  srcC : ∀ {F : FTy → Type}, (Dev nD → S2048x1024.Idx → Elt F .bf16) → Dev nD → src.view.ty.Contents (Elt F)
  dstC : ∀ {F : FTy → Type}, (Dev nD → S2048x1024.Idx → Elt F .bf16) → Dev nD → dst.view.ty.Contents (Elt F)

/-- The messages, eight for each row group: message `8 * g + k`. -/
def msg : Fin 24 → Msg := ![
  { s := S688x1024
    src := own0
    dst := slot0_1
    sS := (((cc0_scratch6.slice (Rect.unit (s := S3x3x5) ![0, 0, 0] S1x1x1.size inb_S3x3x5_S1x1x1_0_0_0)).squeeze S_ squeezes_S1x1x1_S_)).sem
    sR := (((cc0_scratch7.slice (Rect.unit (s := S3x3x5) ![0, 0, 0] S1x1x1.size inb_S3x3x5_S1x1x1_0_0_0)).squeeze S_ squeezes_S1x1x1_S_)).sem
    hsrc := own0_words
    hdst := slot0_1_words
    peer := fun c => ⟨k0_dev4 c, k0_dev4_lt c⟩
    q := fullShare.right.left
    srcC := fun A c => A c
    dstC := fun A c => gatC0 A c },
  { s := S688x1024
    src := own0
    dst := slot0_2
    sS := (((cc0_scratch6.slice (Rect.unit (s := S3x3x5) ![0, 1, 0] S1x1x1.size inb_S3x3x5_S1x1x1_0_1_0)).squeeze S_ squeezes_S1x1x1_S_)).sem
    sR := (((cc0_scratch7.slice (Rect.unit (s := S3x3x5) ![0, 1, 0] S1x1x1.size inb_S3x3x5_S1x1x1_0_1_0)).squeeze S_ squeezes_S1x1x1_S_)).sem
    hsrc := own0_words
    hdst := slot0_2_words
    peer := fun c => ⟨k0_dev7 c, k0_dev7_lt c⟩
    q := fullShare.right.right.left
    srcC := fun A c => A c
    dstC := fun A c => gatC0 A c },
  { s := S688x1024
    src := slot0_1
    dst := slot0_3
    sS := (((cc0_scratch6.slice (Rect.unit (s := S3x3x5) ![0, 1, 1] S1x1x1.size inb_S3x3x5_S1x1x1_0_1_1)).squeeze S_ squeezes_S1x1x1_S_)).sem
    sR := (((cc0_scratch7.slice (Rect.unit (s := S3x3x5) ![0, 1, 1] S1x1x1.size inb_S3x3x5_S1x1x1_0_1_1)).squeeze S_ squeezes_S1x1x1_S_)).sem
    hsrc := slot0_1_words
    hdst := slot0_3_words
    peer := fun c => ⟨k0_dev10 c, k0_dev10_lt c⟩
    q := fullShare.right.left
    srcC := fun A c => gatC0 A c
    dstC := fun A c => gatC0 A c },
  { s := S688x1024
    src := own0
    dst := slot0_4
    sS := (((cc0_scratch6.slice (Rect.unit (s := S3x3x5) ![0, 2, 0] S1x1x1.size inb_S3x3x5_S1x1x1_0_2_0)).squeeze S_ squeezes_S1x1x1_S_)).sem
    sR := (((cc0_scratch7.slice (Rect.unit (s := S3x3x5) ![0, 2, 0] S1x1x1.size inb_S3x3x5_S1x1x1_0_2_0)).squeeze S_ squeezes_S1x1x1_S_)).sem
    hsrc := own0_words
    hdst := slot0_4_words
    peer := fun c => ⟨k0_dev13 c, k0_dev13_lt c⟩
    q := fullShare.right.right.right
    srcC := fun A c => A c
    dstC := fun A c => gatC0 A c },
  { s := S688x1024
    src := slot0_1
    dst := slot0_5
    sS := (((cc0_scratch6.slice (Rect.unit (s := S3x3x5) ![0, 2, 1] S1x1x1.size inb_S3x3x5_S1x1x1_0_2_1)).squeeze S_ squeezes_S1x1x1_S_)).sem
    sR := (((cc0_scratch7.slice (Rect.unit (s := S3x3x5) ![0, 2, 1] S1x1x1.size inb_S3x3x5_S1x1x1_0_2_1)).squeeze S_ squeezes_S1x1x1_S_)).sem
    hsrc := slot0_1_words
    hdst := slot0_5_words
    peer := fun c => ⟨k0_dev14 c, k0_dev14_lt c⟩
    q := fullShare.right.right
    srcC := fun A c => gatC0 A c
    dstC := fun A c => gatC0 A c },
  { s := S688x1024
    src := slot0_2
    dst := slot0_6
    sS := (((cc0_scratch6.slice (Rect.unit (s := S3x3x5) ![0, 2, 2] S1x1x1.size inb_S3x3x5_S1x1x1_0_2_2)).squeeze S_ squeezes_S1x1x1_S_)).sem
    sR := (((cc0_scratch7.slice (Rect.unit (s := S3x3x5) ![0, 2, 2] S1x1x1.size inb_S3x3x5_S1x1x1_0_2_2)).squeeze S_ squeezes_S1x1x1_S_)).sem
    hsrc := slot0_2_words
    hdst := slot0_6_words
    peer := fun c => ⟨k0_dev19 c, k0_dev19_lt c⟩
    q := fullShare.right
    srcC := fun A c => gatC0 A c
    dstC := fun A c => gatC0 A c },
  { s := S344x1024
    src := half0_3_0
    dst := half0_7_0
    sS := (((cc0_scratch6.slice (Rect.unit (s := S3x3x5) ![0, 2, 3] S1x1x1.size inb_S3x3x5_S1x1x1_0_2_3)).squeeze S_ squeezes_S1x1x1_S_)).sem
    sR := (((cc0_scratch7.slice (Rect.unit (s := S3x3x5) ![0, 2, 3] S1x1x1.size inb_S3x3x5_S1x1x1_0_2_3)).squeeze S_ squeezes_S1x1x1_S_)).sem
    hsrc := half0_3_0_words
    hdst := half0_7_0_words
    peer := fun c => ⟨k0_dev20 c, k0_dev20_lt c⟩
    q := fullShare.right
    srcC := fun A c => gatC0 A c
    dstC := fun A c => gatC0 A c },
  { s := S344x1024
    src := half0_3_1
    dst := half0_7_1
    sS := (((cc0_scratch6.slice (Rect.unit (s := S3x3x5) ![0, 2, 4] S1x1x1.size inb_S3x3x5_S1x1x1_0_2_4)).squeeze S_ squeezes_S1x1x1_S_)).sem
    sR := (((cc0_scratch7.slice (Rect.unit (s := S3x3x5) ![0, 2, 4] S1x1x1.size inb_S3x3x5_S1x1x1_0_2_4)).squeeze S_ squeezes_S1x1x1_S_)).sem
    hsrc := half0_3_1_words
    hdst := half0_7_1_words
    peer := fun c => ⟨k0_dev21 c, k0_dev21_lt c⟩
    q := fullShare.right
    srcC := fun A c => gatC0 A c
    dstC := fun A c => gatC0 A c },
  { s := S688x1024
    src := own1
    dst := slot1_1
    sS := (((cc0_scratch6.slice (Rect.unit (s := S3x3x5) ![1, 0, 0] S1x1x1.size inb_S3x3x5_S1x1x1_1_0_0)).squeeze S_ squeezes_S1x1x1_S_)).sem
    sR := (((cc0_scratch7.slice (Rect.unit (s := S3x3x5) ![1, 0, 0] S1x1x1.size inb_S3x3x5_S1x1x1_1_0_0)).squeeze S_ squeezes_S1x1x1_S_)).sem
    hsrc := own1_words
    hdst := slot1_1_words
    peer := fun c => ⟨k0_dev5 c, k0_dev5_lt c⟩
    q := fullShare.right.left
    srcC := fun A c => A c
    dstC := fun A c => gatC1 A c },
  { s := S688x1024
    src := own1
    dst := slot1_2
    sS := (((cc0_scratch6.slice (Rect.unit (s := S3x3x5) ![1, 1, 0] S1x1x1.size inb_S3x3x5_S1x1x1_1_1_0)).squeeze S_ squeezes_S1x1x1_S_)).sem
    sR := (((cc0_scratch7.slice (Rect.unit (s := S3x3x5) ![1, 1, 0] S1x1x1.size inb_S3x3x5_S1x1x1_1_1_0)).squeeze S_ squeezes_S1x1x1_S_)).sem
    hsrc := own1_words
    hdst := slot1_2_words
    peer := fun c => ⟨k0_dev8 c, k0_dev8_lt c⟩
    q := fullShare.right.right.left
    srcC := fun A c => A c
    dstC := fun A c => gatC1 A c },
  { s := S688x1024
    src := slot1_1
    dst := slot1_3
    sS := (((cc0_scratch6.slice (Rect.unit (s := S3x3x5) ![1, 1, 1] S1x1x1.size inb_S3x3x5_S1x1x1_1_1_1)).squeeze S_ squeezes_S1x1x1_S_)).sem
    sR := (((cc0_scratch7.slice (Rect.unit (s := S3x3x5) ![1, 1, 1] S1x1x1.size inb_S3x3x5_S1x1x1_1_1_1)).squeeze S_ squeezes_S1x1x1_S_)).sem
    hsrc := slot1_1_words
    hdst := slot1_3_words
    peer := fun c => ⟨k0_dev11 c, k0_dev11_lt c⟩
    q := fullShare.right.left
    srcC := fun A c => gatC1 A c
    dstC := fun A c => gatC1 A c },
  { s := S688x1024
    src := own1
    dst := slot1_4
    sS := (((cc0_scratch6.slice (Rect.unit (s := S3x3x5) ![1, 2, 0] S1x1x1.size inb_S3x3x5_S1x1x1_1_2_0)).squeeze S_ squeezes_S1x1x1_S_)).sem
    sR := (((cc0_scratch7.slice (Rect.unit (s := S3x3x5) ![1, 2, 0] S1x1x1.size inb_S3x3x5_S1x1x1_1_2_0)).squeeze S_ squeezes_S1x1x1_S_)).sem
    hsrc := own1_words
    hdst := slot1_4_words
    peer := fun c => ⟨k0_dev15 c, k0_dev15_lt c⟩
    q := fullShare.right.right.right
    srcC := fun A c => A c
    dstC := fun A c => gatC1 A c },
  { s := S688x1024
    src := slot1_1
    dst := slot1_5
    sS := (((cc0_scratch6.slice (Rect.unit (s := S3x3x5) ![1, 2, 1] S1x1x1.size inb_S3x3x5_S1x1x1_1_2_1)).squeeze S_ squeezes_S1x1x1_S_)).sem
    sR := (((cc0_scratch7.slice (Rect.unit (s := S3x3x5) ![1, 2, 1] S1x1x1.size inb_S3x3x5_S1x1x1_1_2_1)).squeeze S_ squeezes_S1x1x1_S_)).sem
    hsrc := slot1_1_words
    hdst := slot1_5_words
    peer := fun c => ⟨k0_dev16 c, k0_dev16_lt c⟩
    q := fullShare.right.right
    srcC := fun A c => gatC1 A c
    dstC := fun A c => gatC1 A c },
  { s := S688x1024
    src := slot1_2
    dst := slot1_6
    sS := (((cc0_scratch6.slice (Rect.unit (s := S3x3x5) ![1, 2, 2] S1x1x1.size inb_S3x3x5_S1x1x1_1_2_2)).squeeze S_ squeezes_S1x1x1_S_)).sem
    sR := (((cc0_scratch7.slice (Rect.unit (s := S3x3x5) ![1, 2, 2] S1x1x1.size inb_S3x3x5_S1x1x1_1_2_2)).squeeze S_ squeezes_S1x1x1_S_)).sem
    hsrc := slot1_2_words
    hdst := slot1_6_words
    peer := fun c => ⟨k0_dev22 c, k0_dev22_lt c⟩
    q := fullShare.right
    srcC := fun A c => gatC1 A c
    dstC := fun A c => gatC1 A c },
  { s := S344x1024
    src := half1_3_0
    dst := half1_7_0
    sS := (((cc0_scratch6.slice (Rect.unit (s := S3x3x5) ![1, 2, 3] S1x1x1.size inb_S3x3x5_S1x1x1_1_2_3)).squeeze S_ squeezes_S1x1x1_S_)).sem
    sR := (((cc0_scratch7.slice (Rect.unit (s := S3x3x5) ![1, 2, 3] S1x1x1.size inb_S3x3x5_S1x1x1_1_2_3)).squeeze S_ squeezes_S1x1x1_S_)).sem
    hsrc := half1_3_0_words
    hdst := half1_7_0_words
    peer := fun c => ⟨k0_dev23 c, k0_dev23_lt c⟩
    q := fullShare.right
    srcC := fun A c => gatC1 A c
    dstC := fun A c => gatC1 A c },
  { s := S344x1024
    src := half1_3_1
    dst := half1_7_1
    sS := (((cc0_scratch6.slice (Rect.unit (s := S3x3x5) ![1, 2, 4] S1x1x1.size inb_S3x3x5_S1x1x1_1_2_4)).squeeze S_ squeezes_S1x1x1_S_)).sem
    sR := (((cc0_scratch7.slice (Rect.unit (s := S3x3x5) ![1, 2, 4] S1x1x1.size inb_S3x3x5_S1x1x1_1_2_4)).squeeze S_ squeezes_S1x1x1_S_)).sem
    hsrc := half1_3_1_words
    hdst := half1_7_1_words
    peer := fun c => ⟨k0_dev24 c, k0_dev24_lt c⟩
    q := fullShare.right
    srcC := fun A c => gatC1 A c
    dstC := fun A c => gatC1 A c },
  { s := S672x1024
    src := own2
    dst := slot2_1
    sS := (((cc0_scratch6.slice (Rect.unit (s := S3x3x5) ![2, 0, 0] S1x1x1.size inb_S3x3x5_S1x1x1_2_0_0)).squeeze S_ squeezes_S1x1x1_S_)).sem
    sR := (((cc0_scratch7.slice (Rect.unit (s := S3x3x5) ![2, 0, 0] S1x1x1.size inb_S3x3x5_S1x1x1_2_0_0)).squeeze S_ squeezes_S1x1x1_S_)).sem
    hsrc := own2_words
    hdst := slot2_1_words
    peer := fun c => ⟨k0_dev6 c, k0_dev6_lt c⟩
    q := fullShare.right.left
    srcC := fun A c => A c
    dstC := fun A c => gatC2 A c },
  { s := S672x1024
    src := own2
    dst := slot2_2
    sS := (((cc0_scratch6.slice (Rect.unit (s := S3x3x5) ![2, 1, 0] S1x1x1.size inb_S3x3x5_S1x1x1_2_1_0)).squeeze S_ squeezes_S1x1x1_S_)).sem
    sR := (((cc0_scratch7.slice (Rect.unit (s := S3x3x5) ![2, 1, 0] S1x1x1.size inb_S3x3x5_S1x1x1_2_1_0)).squeeze S_ squeezes_S1x1x1_S_)).sem
    hsrc := own2_words
    hdst := slot2_2_words
    peer := fun c => ⟨k0_dev9 c, k0_dev9_lt c⟩
    q := fullShare.right.right.left
    srcC := fun A c => A c
    dstC := fun A c => gatC2 A c },
  { s := S672x1024
    src := slot2_1
    dst := slot2_3
    sS := (((cc0_scratch6.slice (Rect.unit (s := S3x3x5) ![2, 1, 1] S1x1x1.size inb_S3x3x5_S1x1x1_2_1_1)).squeeze S_ squeezes_S1x1x1_S_)).sem
    sR := (((cc0_scratch7.slice (Rect.unit (s := S3x3x5) ![2, 1, 1] S1x1x1.size inb_S3x3x5_S1x1x1_2_1_1)).squeeze S_ squeezes_S1x1x1_S_)).sem
    hsrc := slot2_1_words
    hdst := slot2_3_words
    peer := fun c => ⟨k0_dev12 c, k0_dev12_lt c⟩
    q := fullShare.right.left
    srcC := fun A c => gatC2 A c
    dstC := fun A c => gatC2 A c },
  { s := S672x1024
    src := own2
    dst := slot2_4
    sS := (((cc0_scratch6.slice (Rect.unit (s := S3x3x5) ![2, 2, 0] S1x1x1.size inb_S3x3x5_S1x1x1_2_2_0)).squeeze S_ squeezes_S1x1x1_S_)).sem
    sR := (((cc0_scratch7.slice (Rect.unit (s := S3x3x5) ![2, 2, 0] S1x1x1.size inb_S3x3x5_S1x1x1_2_2_0)).squeeze S_ squeezes_S1x1x1_S_)).sem
    hsrc := own2_words
    hdst := slot2_4_words
    peer := fun c => ⟨k0_dev17 c, k0_dev17_lt c⟩
    q := fullShare.right.right.right
    srcC := fun A c => A c
    dstC := fun A c => gatC2 A c },
  { s := S672x1024
    src := slot2_1
    dst := slot2_5
    sS := (((cc0_scratch6.slice (Rect.unit (s := S3x3x5) ![2, 2, 1] S1x1x1.size inb_S3x3x5_S1x1x1_2_2_1)).squeeze S_ squeezes_S1x1x1_S_)).sem
    sR := (((cc0_scratch7.slice (Rect.unit (s := S3x3x5) ![2, 2, 1] S1x1x1.size inb_S3x3x5_S1x1x1_2_2_1)).squeeze S_ squeezes_S1x1x1_S_)).sem
    hsrc := slot2_1_words
    hdst := slot2_5_words
    peer := fun c => ⟨k0_dev18 c, k0_dev18_lt c⟩
    q := fullShare.right.right
    srcC := fun A c => gatC2 A c
    dstC := fun A c => gatC2 A c },
  { s := S672x1024
    src := slot2_2
    dst := slot2_6
    sS := (((cc0_scratch6.slice (Rect.unit (s := S3x3x5) ![2, 2, 2] S1x1x1.size inb_S3x3x5_S1x1x1_2_2_2)).squeeze S_ squeezes_S1x1x1_S_)).sem
    sR := (((cc0_scratch7.slice (Rect.unit (s := S3x3x5) ![2, 2, 2] S1x1x1.size inb_S3x3x5_S1x1x1_2_2_2)).squeeze S_ squeezes_S1x1x1_S_)).sem
    hsrc := slot2_2_words
    hdst := slot2_6_words
    peer := fun c => ⟨k0_dev25 c, k0_dev25_lt c⟩
    q := fullShare.right
    srcC := fun A c => gatC2 A c
    dstC := fun A c => gatC2 A c },
  { s := S336x1024
    src := half2_3_0
    dst := half2_7_0
    sS := (((cc0_scratch6.slice (Rect.unit (s := S3x3x5) ![2, 2, 3] S1x1x1.size inb_S3x3x5_S1x1x1_2_2_3)).squeeze S_ squeezes_S1x1x1_S_)).sem
    sR := (((cc0_scratch7.slice (Rect.unit (s := S3x3x5) ![2, 2, 3] S1x1x1.size inb_S3x3x5_S1x1x1_2_2_3)).squeeze S_ squeezes_S1x1x1_S_)).sem
    hsrc := half2_3_0_words
    hdst := half2_7_0_words
    peer := fun c => ⟨k0_dev26 c, k0_dev26_lt c⟩
    q := fullShare.right
    srcC := fun A c => gatC2 A c
    dstC := fun A c => gatC2 A c },
  { s := S336x1024
    src := half2_3_1
    dst := half2_7_1
    sS := (((cc0_scratch6.slice (Rect.unit (s := S3x3x5) ![2, 2, 4] S1x1x1.size inb_S3x3x5_S1x1x1_2_2_4)).squeeze S_ squeezes_S1x1x1_S_)).sem
    sR := (((cc0_scratch7.slice (Rect.unit (s := S3x3x5) ![2, 2, 4] S1x1x1.size inb_S3x3x5_S1x1x1_2_2_4)).squeeze S_ squeezes_S1x1x1_S_)).sem
    hsrc := half2_3_1_words
    hdst := half2_7_1_words
    peer := fun c => ⟨k0_dev27 c, k0_dev27_lt c⟩
    q := fullShare.right
    srcC := fun A c => gatC2 A c
    dstC := fun A c => gatC2 A c } ]

/-! ## Pieces -/

/-- One product: the rows it loads, the share it loads them through and their buffer's contents, and the buffer and the
    part of the result its value goes to: as a view, and as a part of an array: how it reads, its elements, its first row
    and its number of rows. -/
structure Pc where
  ls : Shape
  lv : Memref sig .tc .vmem ls .bf16
  lr : Rect ls
  hl : lv.view.LoadsAt lr.toLoadRect
  cs : Shape
  cb : Memref sig .tc .vmem cs .bf16
  sr : Rect cs
  hsr : ∀ a, sr.stride a = 1
  hc : cb.view.LoadsAt sr.toLoadRect
  hst : (cb.access sr).Stores Finset.univ
  hcw : (cb.slice sr hsr).view.WordExact
  out : Dev nD → Memref sig .tc .hbm sr.shape .bf16
  rd : ∀ {F : FTy → Type}, Dev nD → (S16384x2048.Idx → Elt F .bf16) → sr.shape.Idx → Elt F .bf16
  os : Dev nD → Finset S16384x2048.Idx
  lo : Dev nD → ℕ
  cnt : ℕ
  how : ∀ c, (out c).view.WordExact
  sem : DmaSem sig
  pay : ∀ {F : FTy → Type} [FloatOps F], (lr.shape.Idx → Elt F .bf16) → (S1024x2048.Idx → Elt F .bf16) →
    sr.shape.Idx → Elt F .bf16
  q : PosShare TreeShare
  lvC : ∀ {F : FTy → Type}, (Dev nD → S2048x1024.Idx → Elt F .bf16) → Dev nD → lv.view.ty.Contents (Elt F)

/-- The pieces, nine for each row group: piece `9 * g + j`. -/
def pc : Fin 27 → Pc := ![
  { ls := S688x1024
    lv := own0
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 0#32 0#32) S688x2048.size (k0_off1_inb c 0)) (fun _ => rfl)
    rd := fun c f => (res.slice (Rect.unit (s := S16384x2048) (k0_off1 c 0#32 0#32) S688x2048.size (k0_off1_inb c 0)) (fun _ => rfl)).view.read _ f
    os := fun c => (res.slice (Rect.unit (s := S16384x2048) (k0_off1 c 0#32 0#32) S688x2048.size (k0_off1_inb c 0)) (fun _ => rfl)).view.set
    lo := fun c => k0_off1 c 0#32 0#32 0
    cnt := 688
    how := fun c => (Memref.isWhole_whole _).wordExact_slice rfl _ (k0_off1_wordsbf16 c 0)
    sem := ((cc0_scratch8.slice (Rect.unit (s := S3) ![0] S1.size inb_S3_S1_0)).squeeze S_ squeezes_S1_S_).sem
    pay := fun v b => k0_pay1 v b
    q := fullShare.left
    lvC := fun A c => A c },
  { ls := S688x1024
    lv := slot0_1
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 1#32 0#32) S688x2048.size (k0_off1_inb c 2)) (fun _ => rfl)
    rd := fun c f => (res.slice (Rect.unit (s := S16384x2048) (k0_off1 c 1#32 0#32) S688x2048.size (k0_off1_inb c 2)) (fun _ => rfl)).view.read _ f
    os := fun c => (res.slice (Rect.unit (s := S16384x2048) (k0_off1 c 1#32 0#32) S688x2048.size (k0_off1_inb c 2)) (fun _ => rfl)).view.set
    lo := fun c => k0_off1 c 1#32 0#32 0
    cnt := 688
    how := fun c => (Memref.isWhole_whole _).wordExact_slice rfl _ (k0_off1_wordsbf16 c 2)
    sem := ((cc0_scratch8.slice (Rect.unit (s := S3) ![0] S1.size inb_S3_S1_0)).squeeze S_ squeezes_S1_S_).sem
    pay := fun v b => k0_pay5 v b
    q := fullShare.left
    lvC := fun A c => gatC0 A c },
  { ls := S688x1024
    lv := slot0_2
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 3#32 0#32) S688x2048.size (k0_off1_inb c 4)) (fun _ => rfl)
    rd := fun c f => (res.slice (Rect.unit (s := S16384x2048) (k0_off1 c 3#32 0#32) S688x2048.size (k0_off1_inb c 4)) (fun _ => rfl)).view.read _ f
    os := fun c => (res.slice (Rect.unit (s := S16384x2048) (k0_off1 c 3#32 0#32) S688x2048.size (k0_off1_inb c 4)) (fun _ => rfl)).view.set
    lo := fun c => k0_off1 c 3#32 0#32 0
    cnt := 688
    how := fun c => (Memref.isWhole_whole _).wordExact_slice rfl _ (k0_off1_wordsbf16 c 4)
    sem := ((cc0_scratch8.slice (Rect.unit (s := S3) ![0] S1.size inb_S3_S1_0)).squeeze S_ squeezes_S1_S_).sem
    pay := fun v b => k0_pay5 v b
    q := fullShare.left
    lvC := fun A c => gatC0 A c },
  { ls := S688x1024
    lv := slot0_3
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 2#32 0#32) S688x2048.size (k0_off1_inb c 5)) (fun _ => rfl)
    rd := fun c f => (res.slice (Rect.unit (s := S16384x2048) (k0_off1 c 2#32 0#32) S688x2048.size (k0_off1_inb c 5)) (fun _ => rfl)).view.read _ f
    os := fun c => (res.slice (Rect.unit (s := S16384x2048) (k0_off1 c 2#32 0#32) S688x2048.size (k0_off1_inb c 5)) (fun _ => rfl)).view.set
    lo := fun c => k0_off1 c 2#32 0#32 0
    cnt := 688
    how := fun c => (Memref.isWhole_whole _).wordExact_slice rfl _ (k0_off1_wordsbf16 c 5)
    sem := ((cc0_scratch8.slice (Rect.unit (s := S3) ![0] S1.size inb_S3_S1_0)).squeeze S_ squeezes_S1_S_).sem
    pay := fun v b => k0_pay5 v b
    q := fullShare.left
    lvC := fun A c => gatC0 A c },
  { ls := S688x1024
    lv := slot0_4
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 4#32 0#32) S688x2048.size (k0_off1_inb c 8)) (fun _ => rfl)
    rd := fun c f => (res.slice (Rect.unit (s := S16384x2048) (k0_off1 c 4#32 0#32) S688x2048.size (k0_off1_inb c 8)) (fun _ => rfl)).view.read _ f
    os := fun c => (res.slice (Rect.unit (s := S16384x2048) (k0_off1 c 4#32 0#32) S688x2048.size (k0_off1_inb c 8)) (fun _ => rfl)).view.set
    lo := fun c => k0_off1 c 4#32 0#32 0
    cnt := 688
    how := fun c => (Memref.isWhole_whole _).wordExact_slice rfl _ (k0_off1_wordsbf16 c 8)
    sem := ((cc0_scratch8.slice (Rect.unit (s := S3) ![0] S1.size inb_S3_S1_0)).squeeze S_ squeezes_S1_S_).sem
    pay := fun v b => k0_pay5 v b
    q := fullShare
    lvC := fun A c => gatC0 A c },
  { ls := S688x1024
    lv := slot0_5
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 5#32 0#32) S688x2048.size (k0_off1_inb c 10)) (fun _ => rfl)
    rd := fun c f => (res.slice (Rect.unit (s := S16384x2048) (k0_off1 c 5#32 0#32) S688x2048.size (k0_off1_inb c 10)) (fun _ => rfl)).view.read _ f
    os := fun c => (res.slice (Rect.unit (s := S16384x2048) (k0_off1 c 5#32 0#32) S688x2048.size (k0_off1_inb c 10)) (fun _ => rfl)).view.set
    lo := fun c => k0_off1 c 5#32 0#32 0
    cnt := 688
    how := fun c => (Memref.isWhole_whole _).wordExact_slice rfl _ (k0_off1_wordsbf16 c 10)
    sem := ((cc0_scratch8.slice (Rect.unit (s := S3) ![0] S1.size inb_S3_S1_0)).squeeze S_ squeezes_S1_S_).sem
    pay := fun v b => k0_pay5 v b
    q := fullShare
    lvC := fun A c => gatC0 A c },
  { ls := S688x1024
    lv := slot0_6
    lr := Rect.unit (s := S688x1024) ![0, 0] S688x1024.size inb_S688x1024_S688x1024_0_0
    hl := View.loadsAt_vmem h_S688x1024
    cs := S688x2048
    cb := cbuf0
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 7#32 0#32) S688x2048.size (k0_off1_inb c 12)) (fun _ => rfl)
    rd := fun c f => (res.slice (Rect.unit (s := S16384x2048) (k0_off1 c 7#32 0#32) S688x2048.size (k0_off1_inb c 12)) (fun _ => rfl)).view.read _ f
    os := fun c => (res.slice (Rect.unit (s := S16384x2048) (k0_off1 c 7#32 0#32) S688x2048.size (k0_off1_inb c 12)) (fun _ => rfl)).view.set
    lo := fun c => k0_off1 c 7#32 0#32 0
    cnt := 688
    how := fun c => (Memref.isWhole_whole _).wordExact_slice rfl _ (k0_off1_wordsbf16 c 12)
    sem := ((cc0_scratch8.slice (Rect.unit (s := S3) ![0] S1.size inb_S3_S1_0)).squeeze S_ squeezes_S1_S_).sem
    pay := fun v b => k0_pay5 v b
    q := fullShare
    lvC := fun A c => gatC0 A c },
  { ls := S688x1024
    lv := slot0_7
    lr := Rect.unit (s := S688x1024) ![0, 0] S344x1024.size inb_S688x1024_S344x1024_0_0
    hl := View.loadsAt_vmem h_S344x1024
    cs := S688x2048
    cb := cbuf0
    sr := Rect.unit (s := S688x2048) ![0, 0] S344x2048.size inb_S688x2048_S344x2048_0_0
    hsr := fun _ => rfl
    hc := View.loadsAt_vmem h_S344x2048
    hst := View.stores_vmem h_S344x2048 ((Memref.isWhole_whole _).storeExact_slice rfl _ packedbf16_S688x2048_S344x2048_0_0) (fun _ => rfl)
    hcw := (Memref.isWhole_whole _).wordExact_slice rfl _ wordsbf16_S688x2048_S344x2048_0_0
    out := fun c => res.slice (Rect.unit (s := S16384x2048) (k0_off3 c 0#32 0#32) S344x2048.size (k0_off3_inb c 0 0)) (fun _ => rfl)
    rd := fun c f => (res.slice (Rect.unit (s := S16384x2048) (k0_off3 c 0#32 0#32) S344x2048.size (k0_off3_inb c 0 0)) (fun _ => rfl)).view.read _ f
    os := fun c => (res.slice (Rect.unit (s := S16384x2048) (k0_off3 c 0#32 0#32) S344x2048.size (k0_off3_inb c 0 0)) (fun _ => rfl)).view.set
    lo := fun c => k0_off3 c 0#32 0#32 0
    cnt := 344
    how := fun c => (Memref.isWhole_whole _).wordExact_slice rfl _ (k0_off3_wordsbf16 c 0 0)
    sem := ((cc0_scratch8.slice (Rect.unit (s := S3) ![0] S1.size inb_S3_S1_0)).squeeze S_ squeezes_S1_S_).sem
    pay := fun v b => k0_pay27 v b
    q := fullShare
    lvC := fun A c => gatC0 A c },
  { ls := S688x1024
    lv := slot0_7
    lr := Rect.unit (s := S688x1024) ![344, 0] S344x1024.size inb_S688x1024_S344x1024_344_0
    hl := View.loadsAt_vmem h_S344x1024
    cs := S688x2048
    cb := cbuf0
    sr := Rect.unit (s := S688x2048) ![0, 0] S344x2048.size inb_S688x2048_S344x2048_0_0
    hsr := fun _ => rfl
    hc := View.loadsAt_vmem h_S344x2048
    hst := View.stores_vmem h_S344x2048 ((Memref.isWhole_whole _).storeExact_slice rfl _ packedbf16_S688x2048_S344x2048_0_0) (fun _ => rfl)
    hcw := (Memref.isWhole_whole _).wordExact_slice rfl _ wordsbf16_S688x2048_S344x2048_0_0
    out := fun c => res.slice (Rect.unit (s := S16384x2048) (k0_off3 c 0#32 344#32) S344x2048.size (k0_off3_inb c 0 1)) (fun _ => rfl)
    rd := fun c f => (res.slice (Rect.unit (s := S16384x2048) (k0_off3 c 0#32 344#32) S344x2048.size (k0_off3_inb c 0 1)) (fun _ => rfl)).view.read _ f
    os := fun c => (res.slice (Rect.unit (s := S16384x2048) (k0_off3 c 0#32 344#32) S344x2048.size (k0_off3_inb c 0 1)) (fun _ => rfl)).view.set
    lo := fun c => k0_off3 c 0#32 344#32 0
    cnt := 344
    how := fun c => (Memref.isWhole_whole _).wordExact_slice rfl _ (k0_off3_wordsbf16 c 0 1)
    sem := ((cc0_scratch8.slice (Rect.unit (s := S3) ![0] S1.size inb_S3_S1_0)).squeeze S_ squeezes_S1_S_).sem
    pay := fun v b => k0_pay27 v b
    q := fullShare
    lvC := fun A c => gatC0 A c },
  { ls := S688x1024
    lv := own1
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 0#32 688#32) S688x2048.size (k0_off1_inb c 1)) (fun _ => rfl)
    rd := fun c f => (res.slice (Rect.unit (s := S16384x2048) (k0_off1 c 0#32 688#32) S688x2048.size (k0_off1_inb c 1)) (fun _ => rfl)).view.read _ f
    os := fun c => (res.slice (Rect.unit (s := S16384x2048) (k0_off1 c 0#32 688#32) S688x2048.size (k0_off1_inb c 1)) (fun _ => rfl)).view.set
    lo := fun c => k0_off1 c 0#32 688#32 0
    cnt := 688
    how := fun c => (Memref.isWhole_whole _).wordExact_slice rfl _ (k0_off1_wordsbf16 c 1)
    sem := ((cc0_scratch8.slice (Rect.unit (s := S3) ![1] S1.size inb_S3_S1_1)).squeeze S_ squeezes_S1_S_).sem
    pay := fun v b => k0_pay1 v b
    q := fullShare.left
    lvC := fun A c => A c },
  { ls := S688x1024
    lv := slot1_1
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 3#32 688#32) S688x2048.size (k0_off1_inb c 3)) (fun _ => rfl)
    rd := fun c f => (res.slice (Rect.unit (s := S16384x2048) (k0_off1 c 3#32 688#32) S688x2048.size (k0_off1_inb c 3)) (fun _ => rfl)).view.read _ f
    os := fun c => (res.slice (Rect.unit (s := S16384x2048) (k0_off1 c 3#32 688#32) S688x2048.size (k0_off1_inb c 3)) (fun _ => rfl)).view.set
    lo := fun c => k0_off1 c 3#32 688#32 0
    cnt := 688
    how := fun c => (Memref.isWhole_whole _).wordExact_slice rfl _ (k0_off1_wordsbf16 c 3)
    sem := ((cc0_scratch8.slice (Rect.unit (s := S3) ![1] S1.size inb_S3_S1_1)).squeeze S_ squeezes_S1_S_).sem
    pay := fun v b => k0_pay5 v b
    q := fullShare.left
    lvC := fun A c => gatC1 A c },
  { ls := S688x1024
    lv := slot1_2
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 4#32 688#32) S688x2048.size (k0_off1_inb c 6)) (fun _ => rfl)
    rd := fun c f => (res.slice (Rect.unit (s := S16384x2048) (k0_off1 c 4#32 688#32) S688x2048.size (k0_off1_inb c 6)) (fun _ => rfl)).view.read _ f
    os := fun c => (res.slice (Rect.unit (s := S16384x2048) (k0_off1 c 4#32 688#32) S688x2048.size (k0_off1_inb c 6)) (fun _ => rfl)).view.set
    lo := fun c => k0_off1 c 4#32 688#32 0
    cnt := 688
    how := fun c => (Memref.isWhole_whole _).wordExact_slice rfl _ (k0_off1_wordsbf16 c 6)
    sem := ((cc0_scratch8.slice (Rect.unit (s := S3) ![1] S1.size inb_S3_S1_1)).squeeze S_ squeezes_S1_S_).sem
    pay := fun v b => k0_pay5 v b
    q := fullShare.left
    lvC := fun A c => gatC1 A c },
  { ls := S688x1024
    lv := slot1_3
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 7#32 688#32) S688x2048.size (k0_off1_inb c 7)) (fun _ => rfl)
    rd := fun c f => (res.slice (Rect.unit (s := S16384x2048) (k0_off1 c 7#32 688#32) S688x2048.size (k0_off1_inb c 7)) (fun _ => rfl)).view.read _ f
    os := fun c => (res.slice (Rect.unit (s := S16384x2048) (k0_off1 c 7#32 688#32) S688x2048.size (k0_off1_inb c 7)) (fun _ => rfl)).view.set
    lo := fun c => k0_off1 c 7#32 688#32 0
    cnt := 688
    how := fun c => (Memref.isWhole_whole _).wordExact_slice rfl _ (k0_off1_wordsbf16 c 7)
    sem := ((cc0_scratch8.slice (Rect.unit (s := S3) ![1] S1.size inb_S3_S1_1)).squeeze S_ squeezes_S1_S_).sem
    pay := fun v b => k0_pay5 v b
    q := fullShare.left
    lvC := fun A c => gatC1 A c },
  { ls := S688x1024
    lv := slot1_4
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 1#32 688#32) S688x2048.size (k0_off1_inb c 9)) (fun _ => rfl)
    rd := fun c f => (res.slice (Rect.unit (s := S16384x2048) (k0_off1 c 1#32 688#32) S688x2048.size (k0_off1_inb c 9)) (fun _ => rfl)).view.read _ f
    os := fun c => (res.slice (Rect.unit (s := S16384x2048) (k0_off1 c 1#32 688#32) S688x2048.size (k0_off1_inb c 9)) (fun _ => rfl)).view.set
    lo := fun c => k0_off1 c 1#32 688#32 0
    cnt := 688
    how := fun c => (Memref.isWhole_whole _).wordExact_slice rfl _ (k0_off1_wordsbf16 c 9)
    sem := ((cc0_scratch8.slice (Rect.unit (s := S3) ![1] S1.size inb_S3_S1_1)).squeeze S_ squeezes_S1_S_).sem
    pay := fun v b => k0_pay5 v b
    q := fullShare
    lvC := fun A c => gatC1 A c },
  { ls := S688x1024
    lv := slot1_5
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 2#32 688#32) S688x2048.size (k0_off1_inb c 11)) (fun _ => rfl)
    rd := fun c f => (res.slice (Rect.unit (s := S16384x2048) (k0_off1 c 2#32 688#32) S688x2048.size (k0_off1_inb c 11)) (fun _ => rfl)).view.read _ f
    os := fun c => (res.slice (Rect.unit (s := S16384x2048) (k0_off1 c 2#32 688#32) S688x2048.size (k0_off1_inb c 11)) (fun _ => rfl)).view.set
    lo := fun c => k0_off1 c 2#32 688#32 0
    cnt := 688
    how := fun c => (Memref.isWhole_whole _).wordExact_slice rfl _ (k0_off1_wordsbf16 c 11)
    sem := ((cc0_scratch8.slice (Rect.unit (s := S3) ![1] S1.size inb_S3_S1_1)).squeeze S_ squeezes_S1_S_).sem
    pay := fun v b => k0_pay5 v b
    q := fullShare
    lvC := fun A c => gatC1 A c },
  { ls := S688x1024
    lv := slot1_6
    lr := Rect.unit (s := S688x1024) ![0, 0] S688x1024.size inb_S688x1024_S688x1024_0_0
    hl := View.loadsAt_vmem h_S688x1024
    cs := S688x2048
    cb := cbuf1
    sr := Rect.unit (s := S688x2048) ![0, 0] S688x2048.size inb_S688x2048_S688x2048_0_0
    hsr := fun _ => rfl
    hc := View.loadsAt_vmem h_S688x2048
    hst := View.stores_vmem h_S688x2048 ((Memref.isWhole_whole _).storeExact_slice rfl _ packedbf16_S688x2048_S688x2048_0_0) (fun _ => rfl)
    hcw := (Memref.isWhole_whole _).wordExact_slice rfl _ wordsbf16_S688x2048_S688x2048_0_0
    out := fun c => res.slice (Rect.unit (s := S16384x2048) (k0_off1 c 5#32 688#32) S688x2048.size (k0_off1_inb c 13)) (fun _ => rfl)
    rd := fun c f => (res.slice (Rect.unit (s := S16384x2048) (k0_off1 c 5#32 688#32) S688x2048.size (k0_off1_inb c 13)) (fun _ => rfl)).view.read _ f
    os := fun c => (res.slice (Rect.unit (s := S16384x2048) (k0_off1 c 5#32 688#32) S688x2048.size (k0_off1_inb c 13)) (fun _ => rfl)).view.set
    lo := fun c => k0_off1 c 5#32 688#32 0
    cnt := 688
    how := fun c => (Memref.isWhole_whole _).wordExact_slice rfl _ (k0_off1_wordsbf16 c 13)
    sem := ((cc0_scratch8.slice (Rect.unit (s := S3) ![1] S1.size inb_S3_S1_1)).squeeze S_ squeezes_S1_S_).sem
    pay := fun v b => k0_pay5 v b
    q := fullShare
    lvC := fun A c => gatC1 A c },
  { ls := S688x1024
    lv := slot1_7
    lr := Rect.unit (s := S688x1024) ![0, 0] S344x1024.size inb_S688x1024_S344x1024_0_0
    hl := View.loadsAt_vmem h_S344x1024
    cs := S688x2048
    cb := cbuf1
    sr := Rect.unit (s := S688x2048) ![0, 0] S344x2048.size inb_S688x2048_S344x2048_0_0
    hsr := fun _ => rfl
    hc := View.loadsAt_vmem h_S344x2048
    hst := View.stores_vmem h_S344x2048 ((Memref.isWhole_whole _).storeExact_slice rfl _ packedbf16_S688x2048_S344x2048_0_0) (fun _ => rfl)
    hcw := (Memref.isWhole_whole _).wordExact_slice rfl _ wordsbf16_S688x2048_S344x2048_0_0
    out := fun c => res.slice (Rect.unit (s := S16384x2048) (k0_off3 c 688#32 0#32) S344x2048.size (k0_off3_inb c 1 0)) (fun _ => rfl)
    rd := fun c f => (res.slice (Rect.unit (s := S16384x2048) (k0_off3 c 688#32 0#32) S344x2048.size (k0_off3_inb c 1 0)) (fun _ => rfl)).view.read _ f
    os := fun c => (res.slice (Rect.unit (s := S16384x2048) (k0_off3 c 688#32 0#32) S344x2048.size (k0_off3_inb c 1 0)) (fun _ => rfl)).view.set
    lo := fun c => k0_off3 c 688#32 0#32 0
    cnt := 344
    how := fun c => (Memref.isWhole_whole _).wordExact_slice rfl _ (k0_off3_wordsbf16 c 1 0)
    sem := ((cc0_scratch8.slice (Rect.unit (s := S3) ![1] S1.size inb_S3_S1_1)).squeeze S_ squeezes_S1_S_).sem
    pay := fun v b => k0_pay27 v b
    q := fullShare
    lvC := fun A c => gatC1 A c },
  { ls := S688x1024
    lv := slot1_7
    lr := Rect.unit (s := S688x1024) ![344, 0] S344x1024.size inb_S688x1024_S344x1024_344_0
    hl := View.loadsAt_vmem h_S344x1024
    cs := S688x2048
    cb := cbuf1
    sr := Rect.unit (s := S688x2048) ![0, 0] S344x2048.size inb_S688x2048_S344x2048_0_0
    hsr := fun _ => rfl
    hc := View.loadsAt_vmem h_S344x2048
    hst := View.stores_vmem h_S344x2048 ((Memref.isWhole_whole _).storeExact_slice rfl _ packedbf16_S688x2048_S344x2048_0_0) (fun _ => rfl)
    hcw := (Memref.isWhole_whole _).wordExact_slice rfl _ wordsbf16_S688x2048_S344x2048_0_0
    out := fun c => res.slice (Rect.unit (s := S16384x2048) (k0_off3 c 688#32 344#32) S344x2048.size (k0_off3_inb c 1 1)) (fun _ => rfl)
    rd := fun c f => (res.slice (Rect.unit (s := S16384x2048) (k0_off3 c 688#32 344#32) S344x2048.size (k0_off3_inb c 1 1)) (fun _ => rfl)).view.read _ f
    os := fun c => (res.slice (Rect.unit (s := S16384x2048) (k0_off3 c 688#32 344#32) S344x2048.size (k0_off3_inb c 1 1)) (fun _ => rfl)).view.set
    lo := fun c => k0_off3 c 688#32 344#32 0
    cnt := 344
    how := fun c => (Memref.isWhole_whole _).wordExact_slice rfl _ (k0_off3_wordsbf16 c 1 1)
    sem := ((cc0_scratch8.slice (Rect.unit (s := S3) ![1] S1.size inb_S3_S1_1)).squeeze S_ squeezes_S1_S_).sem
    pay := fun v b => k0_pay27 v b
    q := fullShare
    lvC := fun A c => gatC1 A c },
  { ls := S672x1024
    lv := own2
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 0#32) S672x2048.size (k0_off2_inb c 0)) (fun _ => rfl)
    rd := fun c f => (res.slice (Rect.unit (s := S16384x2048) (k0_off2 c 0#32) S672x2048.size (k0_off2_inb c 0)) (fun _ => rfl)).view.read _ f
    os := fun c => (res.slice (Rect.unit (s := S16384x2048) (k0_off2 c 0#32) S672x2048.size (k0_off2_inb c 0)) (fun _ => rfl)).view.set
    lo := fun c => k0_off2 c 0#32 0
    cnt := 672
    how := fun c => (Memref.isWhole_whole _).wordExact_slice rfl _ (k0_off2_wordsbf16 c 0)
    sem := ((cc0_scratch8.slice (Rect.unit (s := S3) ![2] S1.size inb_S3_S1_2)).squeeze S_ squeezes_S1_S_).sem
    pay := fun v b => k0_pay4 v b
    q := fullShare.left
    lvC := fun A c => A c },
  { ls := S672x1024
    lv := slot2_1
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 4#32) S672x2048.size (k0_off2_inb c 1)) (fun _ => rfl)
    rd := fun c f => (res.slice (Rect.unit (s := S16384x2048) (k0_off2 c 4#32) S672x2048.size (k0_off2_inb c 1)) (fun _ => rfl)).view.read _ f
    os := fun c => (res.slice (Rect.unit (s := S16384x2048) (k0_off2 c 4#32) S672x2048.size (k0_off2_inb c 1)) (fun _ => rfl)).view.set
    lo := fun c => k0_off2 c 4#32 0
    cnt := 672
    how := fun c => (Memref.isWhole_whole _).wordExact_slice rfl _ (k0_off2_wordsbf16 c 1)
    sem := ((cc0_scratch8.slice (Rect.unit (s := S3) ![2] S1.size inb_S3_S1_2)).squeeze S_ squeezes_S1_S_).sem
    pay := fun v b => k0_pay7 v b
    q := fullShare.left
    lvC := fun A c => gatC2 A c },
  { ls := S672x1024
    lv := slot2_2
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 1#32) S672x2048.size (k0_off2_inb c 2)) (fun _ => rfl)
    rd := fun c f => (res.slice (Rect.unit (s := S16384x2048) (k0_off2 c 1#32) S672x2048.size (k0_off2_inb c 2)) (fun _ => rfl)).view.read _ f
    os := fun c => (res.slice (Rect.unit (s := S16384x2048) (k0_off2 c 1#32) S672x2048.size (k0_off2_inb c 2)) (fun _ => rfl)).view.set
    lo := fun c => k0_off2 c 1#32 0
    cnt := 672
    how := fun c => (Memref.isWhole_whole _).wordExact_slice rfl _ (k0_off2_wordsbf16 c 2)
    sem := ((cc0_scratch8.slice (Rect.unit (s := S3) ![2] S1.size inb_S3_S1_2)).squeeze S_ squeezes_S1_S_).sem
    pay := fun v b => k0_pay7 v b
    q := fullShare.left
    lvC := fun A c => gatC2 A c },
  { ls := S672x1024
    lv := slot2_3
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 5#32) S672x2048.size (k0_off2_inb c 3)) (fun _ => rfl)
    rd := fun c f => (res.slice (Rect.unit (s := S16384x2048) (k0_off2 c 5#32) S672x2048.size (k0_off2_inb c 3)) (fun _ => rfl)).view.read _ f
    os := fun c => (res.slice (Rect.unit (s := S16384x2048) (k0_off2 c 5#32) S672x2048.size (k0_off2_inb c 3)) (fun _ => rfl)).view.set
    lo := fun c => k0_off2 c 5#32 0
    cnt := 672
    how := fun c => (Memref.isWhole_whole _).wordExact_slice rfl _ (k0_off2_wordsbf16 c 3)
    sem := ((cc0_scratch8.slice (Rect.unit (s := S3) ![2] S1.size inb_S3_S1_2)).squeeze S_ squeezes_S1_S_).sem
    pay := fun v b => k0_pay7 v b
    q := fullShare.left
    lvC := fun A c => gatC2 A c },
  { ls := S672x1024
    lv := slot2_4
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 3#32) S672x2048.size (k0_off2_inb c 4)) (fun _ => rfl)
    rd := fun c f => (res.slice (Rect.unit (s := S16384x2048) (k0_off2 c 3#32) S672x2048.size (k0_off2_inb c 4)) (fun _ => rfl)).view.read _ f
    os := fun c => (res.slice (Rect.unit (s := S16384x2048) (k0_off2 c 3#32) S672x2048.size (k0_off2_inb c 4)) (fun _ => rfl)).view.set
    lo := fun c => k0_off2 c 3#32 0
    cnt := 672
    how := fun c => (Memref.isWhole_whole _).wordExact_slice rfl _ (k0_off2_wordsbf16 c 4)
    sem := ((cc0_scratch8.slice (Rect.unit (s := S3) ![2] S1.size inb_S3_S1_2)).squeeze S_ squeezes_S1_S_).sem
    pay := fun v b => k0_pay7 v b
    q := fullShare
    lvC := fun A c => gatC2 A c },
  { ls := S672x1024
    lv := slot2_5
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 7#32) S672x2048.size (k0_off2_inb c 5)) (fun _ => rfl)
    rd := fun c f => (res.slice (Rect.unit (s := S16384x2048) (k0_off2 c 7#32) S672x2048.size (k0_off2_inb c 5)) (fun _ => rfl)).view.read _ f
    os := fun c => (res.slice (Rect.unit (s := S16384x2048) (k0_off2 c 7#32) S672x2048.size (k0_off2_inb c 5)) (fun _ => rfl)).view.set
    lo := fun c => k0_off2 c 7#32 0
    cnt := 672
    how := fun c => (Memref.isWhole_whole _).wordExact_slice rfl _ (k0_off2_wordsbf16 c 5)
    sem := ((cc0_scratch8.slice (Rect.unit (s := S3) ![2] S1.size inb_S3_S1_2)).squeeze S_ squeezes_S1_S_).sem
    pay := fun v b => k0_pay7 v b
    q := fullShare
    lvC := fun A c => gatC2 A c },
  { ls := S672x1024
    lv := slot2_6
    lr := Rect.unit (s := S672x1024) ![0, 0] S672x1024.size inb_S672x1024_S672x1024_0_0
    hl := View.loadsAt_vmem h_S672x1024
    cs := S672x2048
    cb := cbuf2
    sr := Rect.unit (s := S672x2048) ![0, 0] S672x2048.size inb_S672x2048_S672x2048_0_0
    hsr := fun _ => rfl
    hc := View.loadsAt_vmem h_S672x2048
    hst := View.stores_vmem h_S672x2048 ((Memref.isWhole_whole _).storeExact_slice rfl _ packedbf16_S672x2048_S672x2048_0_0) (fun _ => rfl)
    hcw := (Memref.isWhole_whole _).wordExact_slice rfl _ wordsbf16_S672x2048_S672x2048_0_0
    out := fun c => res.slice (Rect.unit (s := S16384x2048) (k0_off2 c 2#32) S672x2048.size (k0_off2_inb c 6)) (fun _ => rfl)
    rd := fun c f => (res.slice (Rect.unit (s := S16384x2048) (k0_off2 c 2#32) S672x2048.size (k0_off2_inb c 6)) (fun _ => rfl)).view.read _ f
    os := fun c => (res.slice (Rect.unit (s := S16384x2048) (k0_off2 c 2#32) S672x2048.size (k0_off2_inb c 6)) (fun _ => rfl)).view.set
    lo := fun c => k0_off2 c 2#32 0
    cnt := 672
    how := fun c => (Memref.isWhole_whole _).wordExact_slice rfl _ (k0_off2_wordsbf16 c 6)
    sem := ((cc0_scratch8.slice (Rect.unit (s := S3) ![2] S1.size inb_S3_S1_2)).squeeze S_ squeezes_S1_S_).sem
    pay := fun v b => k0_pay7 v b
    q := fullShare
    lvC := fun A c => gatC2 A c },
  { ls := S672x1024
    lv := slot2_7
    lr := Rect.unit (s := S672x1024) ![0, 0] S336x1024.size inb_S672x1024_S336x1024_0_0
    hl := View.loadsAt_vmem h_S336x1024
    cs := S672x2048
    cb := cbuf2
    sr := Rect.unit (s := S672x2048) ![0, 0] S336x2048.size inb_S672x2048_S336x2048_0_0
    hsr := fun _ => rfl
    hc := View.loadsAt_vmem h_S336x2048
    hst := View.stores_vmem h_S336x2048 ((Memref.isWhole_whole _).storeExact_slice rfl _ packedbf16_S672x2048_S336x2048_0_0) (fun _ => rfl)
    hcw := (Memref.isWhole_whole _).wordExact_slice rfl _ wordsbf16_S672x2048_S336x2048_0_0
    out := fun c => res.slice (Rect.unit (s := S16384x2048) (k0_off4 c 0#32) S336x2048.size (k0_off4_inb c 0)) (fun _ => rfl)
    rd := fun c f => (res.slice (Rect.unit (s := S16384x2048) (k0_off4 c 0#32) S336x2048.size (k0_off4_inb c 0)) (fun _ => rfl)).view.read _ f
    os := fun c => (res.slice (Rect.unit (s := S16384x2048) (k0_off4 c 0#32) S336x2048.size (k0_off4_inb c 0)) (fun _ => rfl)).view.set
    lo := fun c => k0_off4 c 0#32 0
    cnt := 336
    how := fun c => (Memref.isWhole_whole _).wordExact_slice rfl _ (k0_off4_wordsbf16 c 0)
    sem := ((cc0_scratch8.slice (Rect.unit (s := S3) ![2] S1.size inb_S3_S1_2)).squeeze S_ squeezes_S1_S_).sem
    pay := fun v b => k0_pay29 v b
    q := fullShare
    lvC := fun A c => gatC2 A c },
  { ls := S672x1024
    lv := slot2_7
    lr := Rect.unit (s := S672x1024) ![336, 0] S336x1024.size inb_S672x1024_S336x1024_336_0
    hl := View.loadsAt_vmem h_S336x1024
    cs := S672x2048
    cb := cbuf2
    sr := Rect.unit (s := S672x2048) ![0, 0] S336x2048.size inb_S672x2048_S336x2048_0_0
    hsr := fun _ => rfl
    hc := View.loadsAt_vmem h_S336x2048
    hst := View.stores_vmem h_S336x2048 ((Memref.isWhole_whole _).storeExact_slice rfl _ packedbf16_S672x2048_S336x2048_0_0) (fun _ => rfl)
    hcw := (Memref.isWhole_whole _).wordExact_slice rfl _ wordsbf16_S672x2048_S336x2048_0_0
    out := fun c => res.slice (Rect.unit (s := S16384x2048) (k0_off4 c 336#32) S336x2048.size (k0_off4_inb c 1)) (fun _ => rfl)
    rd := fun c f => (res.slice (Rect.unit (s := S16384x2048) (k0_off4 c 336#32) S336x2048.size (k0_off4_inb c 1)) (fun _ => rfl)).view.read _ f
    os := fun c => (res.slice (Rect.unit (s := S16384x2048) (k0_off4 c 336#32) S336x2048.size (k0_off4_inb c 1)) (fun _ => rfl)).view.set
    lo := fun c => k0_off4 c 336#32 0
    cnt := 336
    how := fun c => (Memref.isWhole_whole _).wordExact_slice rfl _ (k0_off4_wordsbf16 c 1)
    sem := ((cc0_scratch8.slice (Rect.unit (s := S3) ![2] S1.size inb_S3_S1_2)).squeeze S_ squeezes_S1_S_).sem
    pay := fun v b => k0_pay29 v b
    q := fullShare
    lvC := fun A c => gatC2 A c } ]

/-! ## The program as a list of steps -/

/-- One step of the body after the barrier. -/
inductive Step where
  | send (i : Fin 24)
  | wait (i : Fin 24)
  | comp (p : Fin 27)
  | drain (p : Fin 27)

/-- The order the body runs them in. -/
def steps : List Step :=
  [.send 0, .send 8, .send 16, .send 1, .send 9, .send 17, .comp 0, .comp 9, .comp 18, .wait 0, .wait
   8, .wait 16, .send 2, .send 10, .send 18, .send 3, .send 4, .send 11, .send 12, .send 19, .send 20,
   .drain 0, .comp 1, .drain 9, .comp 10, .drain 18, .comp 19, .wait 1, .wait 2, .wait 9, .wait 10,
   .wait 17, .wait 18, .send 5, .send 6, .send 7, .send 13, .send 14, .send 15, .send 21, .send 22,
   .send 23, .drain 1, .comp 2, .drain 2, .comp 3, .drain 10, .comp 11, .drain 11, .comp 12, .drain 19,
   .comp 20, .drain 20, .comp 21, .wait 3, .wait 11, .wait 19, .drain 3, .comp 4, .drain 12, .comp 13,
   .drain 21, .comp 22, .wait 4, .wait 12, .wait 20, .drain 4, .comp 5, .drain 13, .comp 14, .drain 22,
   .comp 23, .wait 5, .wait 13, .wait 21, .drain 5, .comp 6, .drain 14, .comp 15, .drain 23, .comp 24,
   .wait 6, .wait 14, .wait 22, .drain 6, .comp 7, .drain 15, .comp 16, .drain 24, .comp 25, .wait 7,
   .wait 15, .wait 23, .drain 7, .comp 8, .drain 16, .comp 17, .drain 25, .comp 26, .drain 8, .drain
   17, .drain 26]

variable {F : FTy → Type} [FloatOps F]

/-- One step's program on device `c`. -/
def stepProg (c : Dev nD) : Step → Prog (TpuEff nD τ sig (Elt F) Λ₀ .tc) PUnit
  | .send i => Prog.lift (.enqueueDma (msg i).src (.remote (Dev.tc ((msg i).peer c)) (msg i).dst (.dma (msg i).sS) (msg i).hsc) (.dma (msg i).sR)
      (msg i).hsrc (msg i).hdst ⟨⟨rfl, Or.inl rfl⟩, trivial⟩)
  | .wait i => do
      Prog.lift (.waitDma2 (msg i).sS (msg i).dst (msg i).src (msg i).hdst (msg i).hsrc)
      Prog.lift (.waitDma2 (msg i).sR (msg i).src (msg i).dst (msg i).hsrc (msg i).hdst)
  | .comp p => do
      let v ← Prog.lift (.load (pc p).lv (pc p).lr.toLoadRect (pc p).hl)
      let b ← Prog.lift (.load matB (Rect.unit (s := S1024x2048) ![0, 0] S1024x2048.size inb_S1024x2048_S1024x2048_0_0).toLoadRect (View.loadsAt_vmem h_S1024x2048))
      let _ ← Prog.lift (.load (pc p).cb (pc p).sr.toLoadRect (pc p).hc)
      Prog.lift (.store (pc p).cb (pc p).sr ((pc p).pay v b) Finset.univ (pc p).hst (.inl rfl))
      Prog.lift (.enqueueDma ((pc p).cb.slice (pc p).sr (pc p).hsr) (.here ((pc p).out c)) (.dma (pc p).sem) (pc p).hcw ((pc p).how c) ⟨Or.inl rfl, trivial⟩)
  | .drain p => Prog.lift (.waitDma2 (pc p).sem ((pc p).cb.slice (pc p).sr (pc p).hsr) ((pc p).out c) (pc p).hcw ((pc p).how c))

/-- The steps in turn. -/
def runSteps (c : Dev nD) : List Step → Prog (TpuEff nD τ sig (Elt F) Λ₀ .tc) PUnit
  | [] => pure ⟨⟩
  | s :: r => do stepProg c s; runSteps c r

/-- The body: the entry barrier with the three neighbours, then the steps. -/
def body : Prog (TpuEff nD τ sig (Elt F) Λ₀ .tc) PUnit := do
  let c ← Prog.lift .deviceId
  semSignalWord (⟨k0_dev1 c, k0_dev1_lt c⟩ : Dev nD) barrier0 1#32
  semSignalWord (⟨k0_dev2 c, k0_dev2_lt c⟩ : Dev nD) barrier0 1#32
  semSignalWord (⟨k0_dev3 c, k0_dev3_lt c⟩ : Dev nD) barrier0 1#32
  semWaitWord barrier0 3#32
  runSteps c steps

end Cert.KernelIdeal.Gather

end
-- ==== Proof.Contents.lean ====
/- What a message carries: once it has landed, the receiver's view reads as the sender's source did. -/
module

public import proofs.«01_k».proof.Proof.Tables
public import Idealize.ShloMosaic.Lib.ValueLayout
public import Idealize.ShloMosaic.Lib.Pipeline.Value

@[expose] public section

set_option maxRecDepth 100000

noncomputable section

namespace Cert.KernelIdeal.Gather

open Idealize.ShloMosaic Idealize.ShloMosaic.TcCoe Idealize.SL.RA Idealize.SL.Sem
open Idealize.ShloMosaic.ValueIdx
open Cert.KernelIdeal Cert.KernelIdeal.Gen

variable {F : FTy → Type}

/-- A statement about every one of the 24, from each. -/
theorem cases24 {P : Fin 24 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (h16 : P 16) (h17 : P 17) (h18 : P 18) (h19 : P 19) (h20 : P 20) (h21 : P 21) (h22 : P 22) (h23 : P 23) : ∀ i, P i
  | 0 => h0
  | 1 => h1
  | 2 => h2
  | 3 => h3
  | 4 => h4
  | 5 => h5
  | 6 => h6
  | 7 => h7
  | 8 => h8
  | 9 => h9
  | 10 => h10
  | 11 => h11
  | 12 => h12
  | 13 => h13
  | 14 => h14
  | 15 => h15
  | 16 => h16
  | 17 => h17
  | 18 => h18
  | 19 => h19
  | 20 => h20
  | 21 => h21
  | 22 => h22
  | 23 => h23
  | ⟨n + 24, h⟩ => absurd h (by omega)

/-- A statement about every one of the 27, from each. -/
theorem cases27 {P : Fin 27 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (h16 : P 16) (h17 : P 17) (h18 : P 18) (h19 : P 19) (h20 : P 20) (h21 : P 21) (h22 : P 22) (h23 : P 23) (h24 : P 24) (h25 : P 25) (h26 : P 26) : ∀ i, P i
  | 0 => h0
  | 1 => h1
  | 2 => h2
  | 3 => h3
  | 4 => h4
  | 5 => h5
  | 6 => h6
  | 7 => h7
  | 8 => h8
  | 9 => h9
  | 10 => h10
  | 11 => h11
  | 12 => h12
  | 13 => h13
  | 14 => h14
  | 15 => h15
  | 16 => h16
  | 17 => h17
  | 18 => h18
  | 19 => h19
  | 20 => h20
  | 21 => h21
  | 22 => h22
  | 23 => h23
  | 24 => h24
  | 25 => h25
  | 26 => h26
  | ⟨n + 27, h⟩ => absurd h (by omega)

/-- The rows of a slot, read: row `x` of the view is row `lo + x` of slot `r`. -/
theorem read_slot {n k : ℕ} (M : Memref sig .tc .vmem ⟨3, ![8, n, 1024]⟩ .bf16) (r lo : ℕ)
    (inb : ∀ a, (![r, lo, 0] : Fin 3 → ℕ) a + (⟨3, ![1, k, 1024]⟩ : Shape).size a ≤ (⟨3, ![8, n, 1024]⟩ : Shape).size a)
    (hr : ∀ a, (Rect.unit (s := ⟨3, ![8, n, 1024]⟩) ![r, lo, 0] (⟨3, ![1, k, 1024]⟩ : Shape).size inb).stride a = 1)
    (hq : (⟨3, ![1, k, 1024]⟩ : Shape).Squeezes ⟨2, ![k, 1024]⟩) (f : M.view.ty.Contents (Elt F))
    (x : (⟨2, ![k, 1024]⟩ : Shape).Idx) :
    ((M.slice (Rect.unit (s := ⟨3, ![8, n, 1024]⟩) ![r, lo, 0] (⟨3, ![1, k, 1024]⟩ : Shape).size inb) hr).squeeze ⟨2, ![k, 1024]⟩ hq).view.read (Elt F) f x
      = M.view.read (Elt F) f (ix3 ⟨r, Nat.lt_of_succ_le (inb 0)⟩
          ⟨lo + (x 0).val, lt_of_lt_of_le (Nat.add_lt_add_left (x 0).isLt lo) (inb 1)⟩ (x 1)) := by
  obtain ⟨a, b, rfl⟩ : ∃ a b, x = ix2 a b := ⟨x 0, x 1, eq_ix2 x⟩
  show M.view.read (Elt F) f ((Rect.unit (s := ⟨3, ![8, n, 1024]⟩) ![r, lo, 0] (⟨3, ![1, k, 1024]⟩ : Shape).size inb).emb (Shape.reshapeEquiv hq.numel_eq (ix2 a b))) = _
  rw [reshapeEquiv_ix2_1ab hq.numel_eq]
  refine congrArg (M.view.read (Elt F) f) (funext fun d => Fin.ext ?_)
  match d with
  | ⟨0, _⟩ => show r + 1 * 0 = r; omega
  | ⟨1, _⟩ => show lo + 1 * a.val = lo + a.val; omega
  | ⟨2, _⟩ => show 0 + 1 * b.val = b.val; omega

/-- Rows of a block of `A`, read. -/
theorem read_rows {k : ℕ} (lo : ℕ)
    (inb : ∀ a, (![lo, 0] : Fin 2 → ℕ) a + (⟨2, ![k, 1024]⟩ : Shape).size a ≤ S2048x1024.size a)
    (hr : ∀ a, (Rect.unit (s := S2048x1024) ![lo, 0] (⟨2, ![k, 1024]⟩ : Shape).size inb).stride a = 1)
    (f : S2048x1024.Idx → Elt F .bf16) (x : (⟨2, ![k, 1024]⟩ : Shape).Idx) :
    (blkA.slice (Rect.unit (s := S2048x1024) ![lo, 0] (⟨2, ![k, 1024]⟩ : Shape).size inb) hr).view.read (Elt F) f x
      = f (ix2 ⟨lo + (x 0).val, lt_of_lt_of_le (Nat.add_lt_add_left (x 0).isLt lo) (inb 0)⟩ (x 1)) := by
  refine congrArg f (funext fun d => Fin.ext ?_)
  match d with
  | ⟨0, _⟩ => show lo + 1 * (x 0).val = lo + (x 0).val; omega
  | ⟨1, _⟩ => show 0 + 1 * (x 1).val = (x 1).val; omega

/-- A slot's contents at an index, from the device and the row it names. -/
theorem gath_at {n : ℕ} {offs : Fin 8 → Dev nD} {r0 : ℕ} {h : r0 + n ≤ 2048} {A : Dev nD → S2048x1024.Idx → Elt F .bf16}
    {c d : Dev nD} {r : Fin 8} {y : Fin n} {z : Fin 1024} {w : Fin 2048} (hd : c ^^^ offs r = d) (hw : r0 + y.val = w.val) :
    gath offs r0 h A c (ix3 r y z) = A d (ix2 w z) := by
  subst hd
  exact congrArg (fun w => A (c ^^^ offs r) (ix2 w z)) (Fin.ext hw)

/-- The same slot row seen from two devices. -/
theorem gath_gath {n : ℕ} {offs : Fin 8 → Dev nD} {r0 : ℕ} {h : r0 + n ≤ 2048} {A : Dev nD → S2048x1024.Idx → Elt F .bf16}
    {c d : Dev nD} {r r' : Fin 8} {y y' : Fin n} {z : Fin 1024} (hd : c ^^^ offs r = d ^^^ offs r') (hw : y.val = y'.val) :
    gath offs r0 h A c (ix3 r y z) = gath offs r0 h A d (ix3 r' y' z) := by
  obtain rfl : y = y' := Fin.ext hw
  exact congrArg (fun w => A w _) hd

/-- A slot holding the gathered rows reads as the rows of the block they come from. -/
theorem land_own {n k : ℕ} (M : Memref sig .tc .vmem ⟨3, ![8, n, 1024]⟩ .bf16) {offs : Fin 8 → Dev nD} {r0 : ℕ} (h : r0 + n ≤ 2048)
    {A : Dev nD → S2048x1024.Idx → Elt F .bf16} {c d : Dev nD} (r lo : ℕ) (inb) (hr)
    (hq : (⟨3, ![1, k, 1024]⟩ : Shape).Squeezes ⟨2, ![k, 1024]⟩) (f : M.view.ty.Contents (Elt F))
    (hf : ∀ j, M.view.read (Elt F) f j = gath offs r0 h A c j) (lo' : ℕ) (inb') (hr')
    (hd : c ^^^ offs ⟨r, Nat.lt_of_succ_le (inb 0)⟩ = d) (hw : r0 + lo = lo') (x : (⟨2, ![k, 1024]⟩ : Shape).Idx) :
    ((M.slice (Rect.unit (s := ⟨3, ![8, n, 1024]⟩) ![r, lo, 0] (⟨3, ![1, k, 1024]⟩ : Shape).size inb) hr).squeeze ⟨2, ![k, 1024]⟩ hq).view.read (Elt F) f x
      = (blkA.slice (Rect.unit (s := S2048x1024) ![lo', 0] (⟨2, ![k, 1024]⟩ : Shape).size inb') hr').view.read (Elt F) (A d) x := by
  rw [read_slot, hf, read_rows]
  exact gath_at hd (by show r0 + (lo + (x 0).val) = lo' + (x 0).val; omega)

/-- Two slots holding rows of the same block read alike. -/
theorem land_slot {n k : ℕ} (M : Memref sig .tc .vmem ⟨3, ![8, n, 1024]⟩ .bf16) {offs : Fin 8 → Dev nD} {r0 : ℕ} (h : r0 + n ≤ 2048)
    {A : Dev nD → S2048x1024.Idx → Elt F .bf16} {c d : Dev nD} (r r' lo : ℕ) (inb) (hr) (inb') (hr')
    (hq : (⟨3, ![1, k, 1024]⟩ : Shape).Squeezes ⟨2, ![k, 1024]⟩) (f : M.view.ty.Contents (Elt F))
    (hf : ∀ j, M.view.read (Elt F) f j = gath offs r0 h A c j) (f' : M.view.ty.Contents (Elt F))
    (hf' : ∀ j, M.view.read (Elt F) f' j = gath offs r0 h A d j)
    (hd : c ^^^ offs ⟨r, Nat.lt_of_succ_le (inb 0)⟩ = d ^^^ offs ⟨r', Nat.lt_of_succ_le (inb' 0)⟩) (x : (⟨2, ![k, 1024]⟩ : Shape).Idx) :
    ((M.slice (Rect.unit (s := ⟨3, ![8, n, 1024]⟩) ![r, lo, 0] (⟨3, ![1, k, 1024]⟩ : Shape).size inb) hr).squeeze ⟨2, ![k, 1024]⟩ hq).view.read (Elt F) f x
      = ((M.slice (Rect.unit (s := ⟨3, ![8, n, 1024]⟩) ![r', lo, 0] (⟨3, ![1, k, 1024]⟩ : Shape).size inb') hr').squeeze ⟨2, ![k, 1024]⟩ hq).view.read (Elt F) f' x := by
  rw [read_slot, hf, read_slot, hf']
  exact gath_gath hd rfl

/-- What the receiver's view reads once message `i` has landed is what the sender's source reads. -/
theorem msg_land (i : Fin 24) (A : Dev nD → S2048x1024.Idx → Elt F .bf16) (c : Dev nD) :
    (msg i).dst.view.read (Elt F) ((msg i).dstC A ((msg i).peer c)) = (msg i).src.view.read (Elt F) ((msg i).srcC A c) := by
  revert i
  apply cases24 <;> funext x
  · exact land_own gat0 (offs := offs0) (r0 := 0) (A := A) (by decide) 1 0 _ (fun _ => rfl) squeezes_S1x688x1024_S688x1024 _ (fun _ => rfl) 0 _ (fun _ => rfl) (by revert c; decide +kernel) (by decide) x
  · exact land_own gat0 (offs := offs0) (r0 := 0) (A := A) (by decide) 2 0 _ (fun _ => rfl) squeezes_S1x688x1024_S688x1024 _ (fun _ => rfl) 0 _ (fun _ => rfl) (by revert c; decide +kernel) (by decide) x
  · exact land_slot gat0 (offs := offs0) (r0 := 0) (A := A) (by decide) 3 1 0 _ (fun _ => rfl) _ (fun _ => rfl) squeezes_S1x688x1024_S688x1024 _ (fun _ => rfl) _ (fun _ => rfl) (by revert c; decide +kernel) x
  · exact land_own gat0 (offs := offs0) (r0 := 0) (A := A) (by decide) 4 0 _ (fun _ => rfl) squeezes_S1x688x1024_S688x1024 _ (fun _ => rfl) 0 _ (fun _ => rfl) (by revert c; decide +kernel) (by decide) x
  · exact land_slot gat0 (offs := offs0) (r0 := 0) (A := A) (by decide) 5 1 0 _ (fun _ => rfl) _ (fun _ => rfl) squeezes_S1x688x1024_S688x1024 _ (fun _ => rfl) _ (fun _ => rfl) (by revert c; decide +kernel) x
  · exact land_slot gat0 (offs := offs0) (r0 := 0) (A := A) (by decide) 6 2 0 _ (fun _ => rfl) _ (fun _ => rfl) squeezes_S1x688x1024_S688x1024 _ (fun _ => rfl) _ (fun _ => rfl) (by revert c; decide +kernel) x
  · exact land_slot gat0 (offs := offs0) (r0 := 0) (A := A) (by decide) 7 3 0 _ (fun _ => rfl) _ (fun _ => rfl) squeezes_S1x344x1024_S344x1024 _ (fun _ => rfl) _ (fun _ => rfl) (by revert c; decide +kernel) x
  · exact land_slot gat0 (offs := offs0) (r0 := 0) (A := A) (by decide) 7 3 344 _ (fun _ => rfl) _ (fun _ => rfl) squeezes_S1x344x1024_S344x1024 _ (fun _ => rfl) _ (fun _ => rfl) (by revert c; decide +kernel) x
  · exact land_own gat1 (offs := offs1) (r0 := 688) (A := A) (by decide) 1 0 _ (fun _ => rfl) squeezes_S1x688x1024_S688x1024 _ (fun _ => rfl) 688 _ (fun _ => rfl) (by revert c; decide +kernel) (by decide) x
  · exact land_own gat1 (offs := offs1) (r0 := 688) (A := A) (by decide) 2 0 _ (fun _ => rfl) squeezes_S1x688x1024_S688x1024 _ (fun _ => rfl) 688 _ (fun _ => rfl) (by revert c; decide +kernel) (by decide) x
  · exact land_slot gat1 (offs := offs1) (r0 := 688) (A := A) (by decide) 3 1 0 _ (fun _ => rfl) _ (fun _ => rfl) squeezes_S1x688x1024_S688x1024 _ (fun _ => rfl) _ (fun _ => rfl) (by revert c; decide +kernel) x
  · exact land_own gat1 (offs := offs1) (r0 := 688) (A := A) (by decide) 4 0 _ (fun _ => rfl) squeezes_S1x688x1024_S688x1024 _ (fun _ => rfl) 688 _ (fun _ => rfl) (by revert c; decide +kernel) (by decide) x
  · exact land_slot gat1 (offs := offs1) (r0 := 688) (A := A) (by decide) 5 1 0 _ (fun _ => rfl) _ (fun _ => rfl) squeezes_S1x688x1024_S688x1024 _ (fun _ => rfl) _ (fun _ => rfl) (by revert c; decide +kernel) x
  · exact land_slot gat1 (offs := offs1) (r0 := 688) (A := A) (by decide) 6 2 0 _ (fun _ => rfl) _ (fun _ => rfl) squeezes_S1x688x1024_S688x1024 _ (fun _ => rfl) _ (fun _ => rfl) (by revert c; decide +kernel) x
  · exact land_slot gat1 (offs := offs1) (r0 := 688) (A := A) (by decide) 7 3 0 _ (fun _ => rfl) _ (fun _ => rfl) squeezes_S1x344x1024_S344x1024 _ (fun _ => rfl) _ (fun _ => rfl) (by revert c; decide +kernel) x
  · exact land_slot gat1 (offs := offs1) (r0 := 688) (A := A) (by decide) 7 3 344 _ (fun _ => rfl) _ (fun _ => rfl) squeezes_S1x344x1024_S344x1024 _ (fun _ => rfl) _ (fun _ => rfl) (by revert c; decide +kernel) x
  · exact land_own gat2 (offs := offs2) (r0 := 1376) (A := A) (by decide) 1 0 _ (fun _ => rfl) squeezes_S1x672x1024_S672x1024 _ (fun _ => rfl) 1376 _ (fun _ => rfl) (by revert c; decide +kernel) (by decide) x
  · exact land_own gat2 (offs := offs2) (r0 := 1376) (A := A) (by decide) 2 0 _ (fun _ => rfl) squeezes_S1x672x1024_S672x1024 _ (fun _ => rfl) 1376 _ (fun _ => rfl) (by revert c; decide +kernel) (by decide) x
  · exact land_slot gat2 (offs := offs2) (r0 := 1376) (A := A) (by decide) 3 1 0 _ (fun _ => rfl) _ (fun _ => rfl) squeezes_S1x672x1024_S672x1024 _ (fun _ => rfl) _ (fun _ => rfl) (by revert c; decide +kernel) x
  · exact land_own gat2 (offs := offs2) (r0 := 1376) (A := A) (by decide) 4 0 _ (fun _ => rfl) squeezes_S1x672x1024_S672x1024 _ (fun _ => rfl) 1376 _ (fun _ => rfl) (by revert c; decide +kernel) (by decide) x
  · exact land_slot gat2 (offs := offs2) (r0 := 1376) (A := A) (by decide) 5 1 0 _ (fun _ => rfl) _ (fun _ => rfl) squeezes_S1x672x1024_S672x1024 _ (fun _ => rfl) _ (fun _ => rfl) (by revert c; decide +kernel) x
  · exact land_slot gat2 (offs := offs2) (r0 := 1376) (A := A) (by decide) 6 2 0 _ (fun _ => rfl) _ (fun _ => rfl) squeezes_S1x672x1024_S672x1024 _ (fun _ => rfl) _ (fun _ => rfl) (by revert c; decide +kernel) x
  · exact land_slot gat2 (offs := offs2) (r0 := 1376) (A := A) (by decide) 7 3 0 _ (fun _ => rfl) _ (fun _ => rfl) squeezes_S1x336x1024_S336x1024 _ (fun _ => rfl) _ (fun _ => rfl) (by revert c; decide +kernel) x
  · exact land_slot gat2 (offs := offs2) (r0 := 1376) (A := A) (by decide) 7 3 336 _ (fun _ => rfl) _ (fun _ => rfl) squeezes_S1x336x1024_S336x1024 _ (fun _ => rfl) _ (fun _ => rfl) (by revert c; decide +kernel) x

end Cert.KernelIdeal.Gather

end
-- ==== Proof.Schedule.lean ====
/- The protocol: for each semaphore cell who waits on it, who signals it, how much, and what the signal hands over.

   Device `c` waits once on its barrier cell, for one signal from each of its three neighbours `nbr d c`; the signal of
   duty `d` hands over the neighbour's landing areas of the messages `c` sends it. Message `i` then raises two cells by
   the bytes it moves: the sender's send cell, which gives the source back, and the receiver's receive cell, which hands
   over the landing area holding the rows sent. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 100000

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's own cells live. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

/-! ## Neighbours, stages, cells -/

/-- The three neighbours of a device: it differs from each in one bit of a basis of the cube. -/
def nbr (d : Fin 3) (c : Dev nD) : Dev nD := c ^^^ (![1, 3, 4] : Fin 3 → Dev nD) d
/-- Which neighbour message `i` goes to. -/
def lnk : Fin 24 → Fin 3 := ![0, 1, 1, 2, 2, 2, 2, 2, 1, 2, 2, 0, 0, 0, 0, 0, 2, 0, 0, 1, 1, 1, 1, 1]
/-- The stage message `i` belongs to. -/
def stage : Fin 24 → ℕ := ![0, 1, 1, 2, 2, 2, 2, 2, 0, 1, 1, 2, 2, 2, 2, 2, 0, 1, 1, 2, 2, 2, 2, 2]

/-- A neighbour's neighbour, along one axis, is the device. -/
theorem nbr_nbr (d : Fin 3) (c : Dev nD) : nbr d (nbr d c) = c := by revert d c; decide
/-- A message goes to the neighbour along its axis. -/
theorem peer_eq (i : Fin 24) (c : Dev nD) : (msg i).peer c = nbr (lnk i) c := by
  revert i; apply cases24 <;> (revert c; decide +kernel)
/-- The target of the same message from its target is the device. -/
theorem peer_peer (i : Fin 24) (c : Dev nD) : (msg i).peer ((msg i).peer c) = c := by
  rw [peer_eq, peer_eq, nbr_nbr]
/-- The body's first signal goes to neighbour 0, -/
theorem dev1_eq (c : Dev nD) : (⟨k0_dev1 c, k0_dev1_lt c⟩ : Dev nD) = nbr 0 c := by revert c; decide +kernel
/-- its second to neighbour 1, -/
theorem dev2_eq (c : Dev nD) : (⟨k0_dev2 c, k0_dev2_lt c⟩ : Dev nD) = nbr 1 c := by revert c; decide +kernel
/-- and its third to neighbour 2. -/
theorem dev3_eq (c : Dev nD) : (⟨k0_dev3 c, k0_dev3_lt c⟩ : Dev nD) = nbr 2 c := by revert c; decide +kernel

/-- The cells of one device: the barrier's, and a send and a receive cell for each message. -/
abbrev CI : Type := Option (Bool × Fin 24)
def semOf : CI → SemLoc sig
  | none => .reg barrier0
  | some (false, i) => .dma (msg i).sS
  | some (true, i) => .dma (msg i).sR
/-- A device's cells are distinct semaphores. -/
theorem semOf_injective : Function.Injective semOf := by decide +kernel

open Classical in
/-- Which cell a semaphore is. -/
def ixOf (s : SemLoc sig) : Option CI := if h : ∃ x, semOf x = s then some h.choose else none
/-- A cell's semaphore names the cell, -/
theorem ixOf_semOf (x : CI) : ixOf (semOf x) = some x := by
  have h : ∃ y, semOf y = semOf x := ⟨x, rfl⟩
  unfold ixOf; rw [dif_pos h]; exact congrArg some (semOf_injective h.choose_spec)
/-- and the cell that a semaphore names has that semaphore. -/
theorem semOf_of_ixOf {s : SemLoc sig} {x : CI} (h : ixOf s = some x) : semOf x = s := by
  unfold ixOf at h
  by_cases h' : ∃ y, semOf y = s
  · rw [dif_pos h'] at h; obtain rfl := Option.some.inj h; exact h'.choose_spec
  · rw [dif_neg h'] at h; exact absurd h (by simp)

abbrev cell (c : Dev nD) (x : CI) : GSem nD τ sig := ((c : Thread nD τ), semOf x)
abbrev barCell (c : Dev nD) : GSem nD τ sig := ((c : Thread nD τ), .reg barrier0)
abbrev sendCell (c : Dev nD) (i : Fin 24) : GSem nD τ sig := ((c : Thread nD τ), .dma (msg i).sS)
abbrev recvCell (c : Dev nD) (i : Fin 24) : GSem nD τ sig := ((c : Thread nD τ), .dma (msg i).sR)

/-- The cells of all devices are distinct. -/
theorem cell_injective : Function.Injective (fun x : Dev nD × CI => cell x.1 x.2) := by
  rintro ⟨c, x⟩ ⟨c', x'⟩ h
  have h1 : c = c' := congrArg (fun g : GSem nD τ sig => g.1.1) h
  subst h1
  have h2 : semOf x = semOf x' := congrArg Prod.snd h
  rw [semOf_injective h2]

/-- The bytes message `i` moves. -/
abbrev amt (i : Fin 24) : ℕ := (msg i).dst.view.dmaCredit
/-- A message moves something. -/
theorem amt_pos (i : Fin 24) : 0 < amt i := by
  revert i; apply cases24 <;> exact View.dmaCredit_pos _ (by decide)
/-- What a message takes from its source is what it brings to its target. -/
theorem amt_src (i : Fin 24) : (msg i).src.view.dmaCredit = amt i := by
  revert i; apply cases24 <;> rfl

/-! ## What changes hands -/

variable (A : Dev nD → S2048x1024.Idx → Elt F .bf16)

/-- The share of message `i`'s source, holding the rows to be sent. -/
def srcPts (c : Dev nD) (i : Fin 24) : sProp 𝕄 :=
  (msg i).src.view.loc (c : Thread nD τ) ↦[(msg i).src.view.set]{(msg i).q} (msg i).srcC A c
/-- Message `i`'s landing area, holding the rows sent. -/
def dstPts (c : Dev nD) (i : Fin 24) : sProp 𝕄 :=
  (msg i).dst.view.loc (c : Thread nD τ) ↦[(msg i).dst.view.set]{fullShare} (msg i).dstC A c
/-- Message `i`'s landing area, holding anything. -/
def dstAny (c : Dev nD) (i : Fin 24) : sProp 𝕄 :=
  iprop(∃ f, (msg i).dst.view.loc (c : Thread nD τ) ↦[(msg i).dst.view.set]{fullShare} f)
/-- What neighbour `d` hands `c` at the barrier: its landing areas for `c`'s messages to it. -/
def barPay (c : Dev nD) (d : Fin 3) : sProp 𝕄 :=
  bigSep (Finset.univ.filter fun i => lnk i = d) fun i => dstAny (nbr d c) i

instance srcPts_storable (c : Dev nD) (i : Fin 24) : BI.Storable (upEmb : UEmb _ 𝕄) (srcPts A c i) := by unfold srcPts; infer_instance
instance dstPts_storable (c : Dev nD) (i : Fin 24) : BI.Storable (upEmb : UEmb _ 𝕄) (dstPts A c i) := by unfold dstPts; infer_instance
instance dstAny_storable (c : Dev nD) (i : Fin 24) : BI.Storable (upEmb : UEmb _ 𝕄) (dstAny (F := F) c i) := by unfold dstAny; infer_instance
instance barPay_storable (c : Dev nD) (d : Fin 3) : BI.Storable (upEmb : UEmb _ 𝕄) (barPay (F := F) c d) := by unfold barPay; infer_instance

def dutiesOf : Option CI → Finset (Fin 3)
  | none => ∅
  | some none => Finset.univ
  | some (some _) => {0}
def amountOf : Option CI → ℕ
  | some (some (_, i)) => amt i
  | _ => 1
def payOf (c : Dev nD) (d : Fin 3) : Option CI → sProp 𝕄
  | none => iprop(emp)
  | some none => barPay c d
  | some (some (false, i)) => srcPts A c i
  | some (some (true, i)) => dstPts A c i

instance payOf_storable (c : Dev nD) (d : Fin 3) (o : Option CI) : BI.Storable (upEmb : UEmb _ 𝕄) (payOf A c d o) := by
  rcases o with _ | _ | ⟨b, i⟩
  · unfold payOf; infer_instance
  · unfold payOf; infer_instance
  · cases b <;> (unfold payOf; infer_instance)

/-- The schedule: every cell has one round. -/
def Rd : Rounds.Schedule (GSem nD τ sig) (Fin 3) 𝕄 where
  duties g r := if r = 0 ∧ g.1.2 = .tc then dutiesOf (ixOf g.2) else ∅
  unitless _ := False
  amount g _ _ := amountOf (ixOf g.2)
  payload g _ d := payOf A g.1.1 d (ixOf g.2)
  amount_pos g _ _ _ := by
    rcases ixOf g.2 with _ | _ | ⟨b, i⟩
    · exact Nat.one_pos
    · exact Nat.one_pos
    · exact amt_pos i

instance Rd_payload_storable (g : GSem nD τ sig) (r : ℕ) (d : Fin 3) : BI.Storable (upEmb : UEmb _ 𝕄) ((Rd A).payload g r d) := by
  show BI.Storable upEmb (payOf A g.1.1 d (ixOf g.2)); infer_instance

section Sched
variable (c : Dev nD)

/-- A cell's duties in the one round there is, by the table: -/
theorem duties_cell (x : CI) : (Rd A).duties (cell c x) 0 = dutiesOf (some x) := by
  dsimp only [Rd]; rw [if_pos ⟨rfl, rfl⟩, ixOf_semOf]
/-- the barrier cell's are one for each neighbour, -/
theorem duties_bar : (Rd A).duties (barCell c) 0 = Finset.univ := duties_cell A c none
/-- a send cell has one, -/
theorem duties_send (i : Fin 24) : (Rd A).duties (sendCell c i) 0 = {0} := duties_cell A c (some (false, i))
/-- a receive cell has one, -/
theorem duties_recv (i : Fin 24) : (Rd A).duties (recvCell c i) 0 = {0} := duties_cell A c (some (true, i))
/-- and there are none later. -/
theorem duties_later (g : GSem nD τ sig) : ∀ r, 1 ≤ r → (Rd A).duties g r = ∅ :=
  fun r hr => by dsimp only [Rd]; exact if_neg fun h => by omega

/-- What a duty raises its cell by, by the table: -/
theorem amount_cell (x : CI) (r : ℕ) (d : Fin 3) : (Rd A).amount (cell c x) r d = amountOf (some x) := by
  dsimp only [Rd]; rw [ixOf_semOf]
/-- a barrier signal by one, -/
theorem amount_bar (d : Fin 3) : (Rd A).amount (barCell c) 0 d = 1 := amount_cell A c none 0 d
/-- a message its send cell by its amount, -/
theorem amount_send (i : Fin 24) (d : Fin 3) : (Rd A).amount (sendCell c i) 0 d = amt i := amount_cell A c (some (false, i)) 0 d
/-- and its receive cell by its amount. -/
theorem amount_recv (i : Fin 24) (d : Fin 3) : (Rd A).amount (recvCell c i) 0 d = amt i := amount_cell A c (some (true, i)) 0 d

/-- The barrier's wait takes three, -/
theorem expect_bar : (Rd A).expect (barCell c) 0 = 3 := by
  unfold Schedule.expect Schedule.amountOf; rw [duties_bar]; simp only [amount_bar]; rfl
/-- a send cell's its message's amount, -/
theorem expect_send (i : Fin 24) : (Rd A).expect (sendCell c i) 0 = amt i := by
  unfold Schedule.expect Schedule.amountOf; rw [duties_send, Finset.sum_singleton, amount_send]
/-- and so does a receive cell's. -/
theorem expect_recv (i : Fin 24) : (Rd A).expect (recvCell c i) 0 = amt i := by
  unfold Schedule.expect Schedule.amountOf; rw [duties_recv, Finset.sum_singleton, amount_recv]

/-- What a duty hands over, by the table: -/
theorem payload_cell (x : CI) (r : ℕ) (d : Fin 3) : (Rd A).payload (cell c x) r d = payOf A c d (some x) := by
  dsimp only [Rd]; rw [ixOf_semOf]
/-- a barrier signal the landing areas at the neighbour, -/
theorem payload_bar (d : Fin 3) : (Rd A).payload (barCell c) 0 d = barPay c d := payload_cell A c none 0 d
/-- a send cell the source, -/
theorem payload_send (i : Fin 24) (d : Fin 3) : (Rd A).payload (sendCell c i) 0 d = srcPts A c i := payload_cell A c (some (false, i)) 0 d
/-- and a receive cell the landed rows. -/
theorem payload_recv (i : Fin 24) (d : Fin 3) : (Rd A).payload (recvCell c i) 0 d = dstPts A c i := payload_cell A c (some (true, i)) 0 d

/-- What the barrier's wait hands over: the landing areas of all of `c`'s messages. -/
theorem rest_bar : bigSep ((Rd A).duties (barCell c) 0 \ ∅) (fun d => (Rd A).payload (barCell c) 0 d)
    = bigSep Finset.univ fun i => dstAny (F := F) ((msg i).peer c) i := by
  rw [Finset.sdiff_empty, duties_bar, BI.bigSep_fiberwise (Finset.univ : Finset (Fin 24)) lnk,
    show Finset.univ.image lnk = Finset.univ from by decide]
  refine bigSep_congr fun d _ => (payload_bar A c d).trans (bigSep_congr fun i hi => ?_)
  rw [peer_eq, (Finset.mem_filter.mp hi).2]
/-- The wait on a send cell hands over the source, -/
theorem rest_send (i : Fin 24) : bigSep ((Rd A).duties (sendCell c i) 0 \ ∅) (fun d => (Rd A).payload (sendCell c i) 0 d) = srcPts A c i := by
  rw [Finset.sdiff_empty, duties_send, bigSep_singleton, payload_send]
/-- and the wait on a receive cell the landed rows. -/
theorem rest_recv (i : Fin 24) : bigSep ((Rd A).duties (recvCell c i) 0 \ ∅) (fun d => (Rd A).payload (recvCell c i) 0 d) = dstPts A c i := by
  rw [Finset.sdiff_empty, duties_recv, bigSep_singleton, payload_recv]

end Sched

/-! ## What each device owes; the levels -/

/-- What device `c` owes for the messages `T`. -/
def oweMsgs (c : Dev nD) (T : Finset (Fin 24)) : CellTallies nD τ sig Unit :=
  ∑ i ∈ T, tallyAt (recvCell ((msg i).peer c) i) () (amt i)
/-- What device `c` owes the barrier cell of neighbour `d`. -/
def oweBar (c : Dev nD) (d : Fin 3) : CellTallies nD τ sig Unit := tallyAt (barCell (nbr d c)) () 1
/-- What device `c` owes at launch. -/
def O₀ (c : Dev nD) : CellTallies nD τ sig Unit := oweMsgs c Finset.univ + oweBar c 2 + oweBar c 1 + oweBar c 0

/-- With no message left to send nothing is owed. -/
theorem oweMsgs_empty (c : Dev nD) : oweMsgs c ∅ = 0 := Finset.sum_empty
/-- A message sent is no longer owed. -/
theorem oweMsgs_erase (c : Dev nD) {T : Finset (Fin 24)} {i : Fin 24} (h : i ∈ T) :
    oweMsgs c T = oweMsgs c (T.erase i) + tallyAt (recvCell ((msg i).peer c) i) () (amt i) :=
  (Finset.sum_erase_add T _ h).symm

def L (g : GSem nD τ sig) : Finset Unit := if g.1.2 = .tc then {()} else ∅
def levOf : Option CI → ℕ
  | some none => 1
  | some (some (true, i)) => 2 + stage i
  | _ => 0
/-- Barrier cells come first, then the receive cells by stage. -/
def lev (g : GSem nD τ sig) (_ : Unit) : ℕ := levOf (ixOf g.2)
/-- Only the tensor cores' cells have a level, -/
theorem L_of_ne (g : GSem nD τ sig) (h : g.1.2 ≠ .tc) : L g = ∅ := if_neg h
/-- and each of those has one. -/
theorem L_tc (c : Dev nD) (sm : SemLoc sig) : L ((c : Thread nD τ), sm) = {()} := if_pos rfl
/-- The barrier is at level one, -/
theorem lev_bar (c : Dev nD) : lev (barCell c) () = 1 := congrArg levOf (ixOf_semOf none)
/-- a send cell at level zero, -/
theorem lev_send (c : Dev nD) (i : Fin 24) : lev (sendCell c i) () = 0 := congrArg levOf (ixOf_semOf (some (false, i)))
/-- and a receive cell at its stage's level. -/
theorem lev_recv (c : Dev nD) (i : Fin 24) : lev (recvCell c i) () = 2 + stage i := congrArg levOf (ixOf_semOf (some (true, i)))

/-- What is owed for messages is owed to their receive cells. -/
theorem oweMsgs_pos {c : Dev nD} {T : Finset (Fin 24)} {g : GSem nD τ sig} {u : Unit} (h : 0 < oweMsgs c T g u) :
    ∃ i ∈ T, g = recvCell ((msg i).peer c) i := by
  unfold oweMsgs at h
  rw [Finset.sum_apply, Finsupp.finset_sum_apply] at h
  obtain ⟨i, hi, h'⟩ := Finset.exists_ne_zero_of_sum_ne_zero h.ne'
  rw [tallyAt_apply] at h'
  exact ⟨i, hi, by by_contra hn; exact h' (if_neg fun h => hn h.1)⟩

/-- What is owed for a barrier signal is owed to the neighbour's barrier cell. -/
theorem oweBar_pos {c : Dev nD} {d : Fin 3} {g : GSem nD τ sig} {u : Unit} (h : 0 < oweBar c d g u) : g = barCell (nbr d c) := by
  unfold oweBar at h
  rw [tallyAt_apply] at h
  by_contra hn
  rw [if_neg fun h' => hn h'.1] at h
  exact Nat.lt_irrefl 0 h

/-- A wait below everything owed. -/
theorem mayWait_msgs (c : Dev nD) (sm : SemLoc sig) (T : Finset (Fin 24)) (h : ∀ i ∈ T, lev ((c : Thread nD τ), sm) () < 2 + stage i) :
    (levAts L lev : sProp 𝕄) ⊢ MayWait (c : Thread nD τ) sm () (oweMsgs c T) :=
  Pipeline.mayWait_of_levAts (by rw [L_tc]; exact Finset.mem_singleton_self _) fun g u hg => by
    obtain ⟨i, hi, rfl⟩ := oweMsgs_pos hg
    exact ⟨by rw [L_tc]; exact Finset.mem_singleton_self _, by rw [lev_recv]; exact h i hi⟩

/-- At the launch nothing is owed but to receive cells and barrier cells. -/
theorem O₀_pos {c : Dev nD} {g : GSem nD τ sig} {u : Unit} (h : 0 < O₀ c g u) :
    (∃ i, g = recvCell ((msg i).peer c) i) ∨ ∃ d, g = barCell (nbr d c) := by
  unfold O₀ at h
  rw [Pi.add_apply, Finsupp.add_apply, Pi.add_apply, Finsupp.add_apply, Pi.add_apply, Finsupp.add_apply] at h
  rcases Nat.eq_zero_or_pos (oweMsgs c Finset.univ g u) with h0 | h0
  · rcases Nat.eq_zero_or_pos (oweBar c 2 g u) with h2 | h2
    · rcases Nat.eq_zero_or_pos (oweBar c 1 g u) with h1 | h1
      · exact .inr ⟨0, oweBar_pos (u := u) (by rw [h0, h2, h1] at h; simpa only [Nat.zero_add] using h)⟩
      · exact .inr ⟨1, oweBar_pos h1⟩
    · exact .inr ⟨2, oweBar_pos h2⟩
  · obtain ⟨i, -, h'⟩ := oweMsgs_pos h0; exact .inl ⟨i, h'⟩

/-- A wait at level zero, whatever is owed at launch. -/
theorem mayWait_launch (c : Dev nD) (sm : SemLoc sig) (h : lev ((c : Thread nD τ), sm) () = 0) :
    (levAts L lev : sProp 𝕄) ⊢ MayWait (c : Thread nD τ) sm () (O₀ c) :=
  Pipeline.mayWait_of_levAts (by rw [L_tc]; exact Finset.mem_singleton_self _) fun g u hg => by
    rcases O₀_pos hg with ⟨i, rfl⟩ | ⟨d, rfl⟩
    · exact ⟨by rw [L_tc]; exact Finset.mem_singleton_self _, by rw [h, lev_recv]; omega⟩
    · exact ⟨by rw [L_tc]; exact Finset.mem_singleton_self _, by rw [h, lev_bar]; omega⟩

end Cert.KernelIdeal.Gather

end
-- ==== Proof.Splits.lean ====
/- How the buffers are divided: a landed message's rows go to the piece computed from them and to the messages they are
   forwarded by, in shares; a device's own rows likewise. -/
module

public import proofs.«01_k».proof.Proof.Schedule

@[expose] public section

set_option maxRecDepth 100000

noncomputable section

namespace Cert.KernelIdeal.Gather

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

/-! ## Element sets -/

/-- Rows of a slot, reached through the slot or sliced off the buffer. -/
theorem access_slot_set {n k : ℕ} (M : Memref sig .tc .vmem ⟨3, ![8, n, 1024]⟩ .bf16) (r lo : ℕ)
    (inb : ∀ a, (![r, 0, 0] : Fin 3 → ℕ) a + (⟨3, ![1, n, 1024]⟩ : Shape).size a ≤ (⟨3, ![8, n, 1024]⟩ : Shape).size a) (hr)
    (hq : (⟨3, ![1, n, 1024]⟩ : Shape).Squeezes ⟨2, ![n, 1024]⟩)
    (inb₁ : ∀ a, (![lo, 0] : Fin 2 → ℕ) a + (⟨2, ![k, 1024]⟩ : Shape).size a ≤ (⟨2, ![n, 1024]⟩ : Shape).size a)
    (inb' : ∀ a, (![r, lo, 0] : Fin 3 → ℕ) a + (⟨3, ![1, k, 1024]⟩ : Shape).size a ≤ (⟨3, ![8, n, 1024]⟩ : Shape).size a) (hr')
    (hq' : (⟨3, ![1, k, 1024]⟩ : Shape).Squeezes ⟨2, ![k, 1024]⟩) :
    (((M.slice (Rect.unit (s := ⟨3, ![8, n, 1024]⟩) ![r, 0, 0] (⟨3, ![1, n, 1024]⟩ : Shape).size inb) hr).squeeze ⟨2, ![n, 1024]⟩ hq).access
        (Rect.unit (s := ⟨2, ![n, 1024]⟩) ![lo, 0] (⟨2, ![k, 1024]⟩ : Shape).size inb₁)).set
      = ((M.slice (Rect.unit (s := ⟨3, ![8, n, 1024]⟩) ![r, lo, 0] (⟨3, ![1, k, 1024]⟩ : Shape).size inb') hr').squeeze ⟨2, ![k, 1024]⟩ hq').view.set := by
  refine congrArg (Finset.univ.map ·) (Function.Embedding.ext fun (x : (⟨2, ![k, 1024]⟩ : Shape).Idx) => ?_)
  obtain ⟨a, b, rfl⟩ : ∃ a b, x = ix2 a b := ⟨x 0, x 1, eq_ix2 x⟩
  have e : (Rect.unit (s := ⟨2, ![n, 1024]⟩) ![lo, 0] (⟨2, ![k, 1024]⟩ : Shape).size inb₁).emb (ix2 a b)
      = ix2 (⟨lo + a.val, lt_of_lt_of_le (Nat.add_lt_add_left a.isLt lo) (inb₁ 0)⟩ : Fin n) b := by
    funext d
    refine Fin.ext ?_
    match d with
    | ⟨0, _⟩ => show lo + 1 * a.val = lo + a.val; omega
    | ⟨1, _⟩ => show 0 + 1 * b.val = b.val; omega
  show M.view.emb ((Rect.unit (s := ⟨3, ![8, n, 1024]⟩) ![r, 0, 0] (⟨3, ![1, n, 1024]⟩ : Shape).size inb).emb
      (Shape.reshapeEquiv hq.numel_eq ((Rect.unit (s := ⟨2, ![n, 1024]⟩) ![lo, 0] (⟨2, ![k, 1024]⟩ : Shape).size inb₁).emb (ix2 a b))))
    = M.view.emb ((Rect.unit (s := ⟨3, ![8, n, 1024]⟩) ![r, lo, 0] (⟨3, ![1, k, 1024]⟩ : Shape).size inb').emb (Shape.reshapeEquiv hq'.numel_eq (ix2 a b)))
  rw [e, reshapeEquiv_ix2_1ab hq.numel_eq, reshapeEquiv_ix2_1ab hq'.numel_eq]
  refine congrArg M.view.emb (funext fun d => Fin.ext ?_)
  match d with
  | ⟨0, _⟩ => rfl
  | ⟨1, _⟩ => show 0 + 1 * (lo + a.val) = lo + 1 * a.val; omega
  | ⟨2, _⟩ => rfl

/-- Rows of a block of `A`, reached through themselves. -/
theorem access_rows_set {k : ℕ} (lo : ℕ)
    (inb : ∀ a, (![lo, 0] : Fin 2 → ℕ) a + (⟨2, ![k, 1024]⟩ : Shape).size a ≤ S2048x1024.size a) (hr)
    (inb₁ : ∀ a, (![0, 0] : Fin 2 → ℕ) a + (⟨2, ![k, 1024]⟩ : Shape).size a ≤ (⟨2, ![k, 1024]⟩ : Shape).size a) :
    ((blkA.slice (Rect.unit (s := S2048x1024) ![lo, 0] (⟨2, ![k, 1024]⟩ : Shape).size inb) hr).access
        (Rect.unit (s := ⟨2, ![k, 1024]⟩) ![0, 0] (⟨2, ![k, 1024]⟩ : Shape).size inb₁)).set
      = (blkA.slice (Rect.unit (s := S2048x1024) ![lo, 0] (⟨2, ![k, 1024]⟩ : Shape).size inb) hr).view.set := by
  refine congrArg (Finset.univ.map ·) (Function.Embedding.ext fun (x : (⟨2, ![k, 1024]⟩ : Shape).Idx) => ?_)
  refine congrArg (Rect.unit (s := S2048x1024) ![lo, 0] (⟨2, ![k, 1024]⟩ : Shape).size inb).emb (funext fun d => Fin.ext ?_)
  match d with
  | ⟨0, _⟩ => show 0 + 1 * (x 0).val = (x 0).val; omega
  | ⟨1, _⟩ => show 0 + 1 * (x 1).val = (x 1).val; omega

/-- Which elements of the buffer the rows `lo, …` of slot `r` are. -/
theorem mem_slot {n k : ℕ} (M : Memref sig .tc .vmem ⟨3, ![8, n, 1024]⟩ .bf16) (r lo : ℕ)
    (inb : ∀ a, (![r, lo, 0] : Fin 3 → ℕ) a + (⟨3, ![1, k, 1024]⟩ : Shape).size a ≤ (⟨3, ![8, n, 1024]⟩ : Shape).size a) (hr)
    (hq : (⟨3, ![1, k, 1024]⟩ : Shape).Squeezes ⟨2, ![k, 1024]⟩) (x) :
    x ∈ ((M.slice (Rect.unit (s := ⟨3, ![8, n, 1024]⟩) ![r, lo, 0] (⟨3, ![1, k, 1024]⟩ : Shape).size inb) hr).squeeze ⟨2, ![k, 1024]⟩ hq).view.set
      ↔ ∃ y : (⟨3, ![8, n, 1024]⟩ : Shape).Idx, M.view.emb y = x ∧ (y 0).val = r ∧ lo ≤ (y 1).val ∧ (y 1).val < lo + k := by
  have h : ((M.slice (Rect.unit (s := ⟨3, ![8, n, 1024]⟩) ![r, lo, 0] (⟨3, ![1, k, 1024]⟩ : Shape).size inb) hr).squeeze ⟨2, ![k, 1024]⟩ hq).view.set
      = (Rect.unit (s := ⟨3, ![8, n, 1024]⟩) ![r, lo, 0] (⟨3, ![1, k, 1024]⟩ : Shape).size inb).set.map M.view.emb :=
    (View.set_reshape _ _).trans (View.set_slice _ _)
  rw [h, Finset.mem_map]
  refine exists_congr fun y => ?_
  rw [Rect.mem_set_unit]
  have h2 : (y 2).val < 1024 := (y 2).isLt
  constructor
  · rintro ⟨hy, e⟩
    have h0 : r ≤ (y 0).val ∧ (y 0).val < r + 1 := hy 0
    have h1 : lo ≤ (y 1).val ∧ (y 1).val < lo + k := hy 1
    exact ⟨e, by omega, h1.1, h1.2⟩
  · rintro ⟨e, h0, h1, h1'⟩
    refine ⟨fun d => ?_, e⟩
    match d with
    | ⟨0, _⟩ => exact ⟨le_of_eq h0.symm, by show (y 0).val < r + 1; omega⟩
    | ⟨1, _⟩ => exact ⟨h1, h1'⟩
    | ⟨2, _⟩ => exact ⟨Nat.zero_le _, by show (y 2).val < 0 + 1024; omega⟩

/-- A slot's rows are its two halves' … -/
theorem slot_halves {n : ℕ} (M : Memref sig .tc .vmem ⟨3, ![8, n, 1024]⟩ .bf16) (r k : ℕ) (hn : n = k + k) (inb) (hr)
    (hq : (⟨3, ![1, n, 1024]⟩ : Shape).Squeezes ⟨2, ![n, 1024]⟩) (inb₀) (hr₀) (hq' : (⟨3, ![1, k, 1024]⟩ : Shape).Squeezes ⟨2, ![k, 1024]⟩) (inb₁) (hr₁) :
    ((M.slice (Rect.unit (s := ⟨3, ![8, n, 1024]⟩) ![r, 0, 0] (⟨3, ![1, n, 1024]⟩ : Shape).size inb) hr).squeeze ⟨2, ![n, 1024]⟩ hq).view.set
      = ((M.slice (Rect.unit (s := ⟨3, ![8, n, 1024]⟩) ![r, 0, 0] (⟨3, ![1, k, 1024]⟩ : Shape).size inb₀) hr₀).squeeze ⟨2, ![k, 1024]⟩ hq').view.set
        ∪ ((M.slice (Rect.unit (s := ⟨3, ![8, n, 1024]⟩) ![r, k, 0] (⟨3, ![1, k, 1024]⟩ : Shape).size inb₁) hr₁).squeeze ⟨2, ![k, 1024]⟩ hq').view.set := by
  ext x
  rw [Finset.mem_union]
  refine (mem_slot M r 0 inb hr hq x).trans (Iff.trans ?_ (or_congr (mem_slot M r 0 inb₀ hr₀ hq' x) (mem_slot M r k inb₁ hr₁ hq' x)).symm)
  constructor
  · rintro ⟨y, e, h0, h1, h2⟩
    by_cases h : (y 1).val < k
    · exact .inl ⟨y, e, h0, h1, by omega⟩
    · exact .inr ⟨y, e, h0, by omega, by omega⟩
  · rintro (⟨y, e, h0, h1, h2⟩ | ⟨y, e, h0, h1, h2⟩)
    · exact ⟨y, e, h0, h1, by omega⟩
    · exact ⟨y, e, h0, by omega, by omega⟩

/-- … which are disjoint. -/
theorem slot_disjoint {n : ℕ} (M : Memref sig .tc .vmem ⟨3, ![8, n, 1024]⟩ .bf16) (r k : ℕ)
    (inb₀) (hr₀) (hq' : (⟨3, ![1, k, 1024]⟩ : Shape).Squeezes ⟨2, ![k, 1024]⟩) (inb₁) (hr₁) :
    Disjoint ((M.slice (Rect.unit (s := ⟨3, ![8, n, 1024]⟩) ![r, 0, 0] (⟨3, ![1, k, 1024]⟩ : Shape).size inb₀) hr₀).squeeze ⟨2, ![k, 1024]⟩ hq').view.set
      ((M.slice (Rect.unit (s := ⟨3, ![8, n, 1024]⟩) ![r, k, 0] (⟨3, ![1, k, 1024]⟩ : Shape).size inb₁) hr₁).squeeze ⟨2, ![k, 1024]⟩ hq').view.set := by
  refine Finset.disjoint_left.mpr fun x h h' => ?_
  obtain ⟨y, e, -, -, h2⟩ := (mem_slot M r 0 inb₀ hr₀ hq' x).mp h
  obtain ⟨y', e', -, h1, -⟩ := (mem_slot M r k inb₁ hr₁ hq' x).mp h'
  obtain rfl : y = y' := M.view.emb.injective (e.trans e'.symm)
  omega

/-! ## Dividing a points-to -/

/-- A conjunction over two. -/
theorem bigSep_pair {I : Type} [DecidableEq I] {i j : I} (h : i ≠ j) (Φ : I → sProp 𝕄) :
    bigSep {i, j} Φ = iprop(Φ i ∗ Φ j) := by
  rw [bigSep_insert (by rwa [Finset.mem_singleton]), bigSep_singleton]; rfl

section Divide
variable {ℓ : Loc nD τ sig} {I I' J J' : Finset (Idx ℓ)} {q : PosShare TreeShare} {f : Buf (Elt F) ℓ}

/-- Memory held in two shares. -/
theorem share_split : (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2
/-- Memory held in two ranges. -/
theorem set_split (h : Disjoint I J) : (ℓ ↦[I ∪ J]{q} f : sProp 𝕄) = iprop((ℓ ↦[I]{q} f) ∗ ℓ ↦[J]{q} f) :=
  BI.Entails.antisymm (pointsTo_union h).1 (pointsTo_union h).2

/-- Rows that nobody sends on are held by their piece alone. -/
theorem split_none (h : I' = I) : (ℓ ↦[I]{fullShare} f : sProp 𝕄) = iprop((ℓ ↦[I']{fullShare} f) ∗ emp) := by
  rw [h]; exact (BI.Entails.antisymm sep_emp.1 sep_emp.2).symm
/-- Rows that one message sends on are held half by their piece and half by the message. -/
theorem split_two (h : I' = I) :
    (ℓ ↦[I]{fullShare} f : sProp 𝕄) = iprop((ℓ ↦[I']{fullShare.left} f) ∗ ℓ ↦[I]{fullShare.right} f) := by
  rw [h]; exact share_split
/-- Rows that two messages send on: the piece's share, and one for each message. -/
theorem split_three (h : I' = I) :
    (ℓ ↦[I]{fullShare} f : sProp 𝕄)
      = iprop((ℓ ↦[I']{fullShare.left} f) ∗ (ℓ ↦[I]{fullShare.right.left} f) ∗ ℓ ↦[I]{fullShare.right.right} f) := by
  rw [h, ← share_split]; exact share_split
/-- Rows that three messages send on: the piece's share, and one for each message. -/
theorem split_four (h : I' = I) :
    (ℓ ↦[I]{fullShare} f : sProp 𝕄)
      = iprop((ℓ ↦[I']{fullShare.left} f) ∗ (ℓ ↦[I]{fullShare.right.left} f) ∗ (ℓ ↦[I]{fullShare.right.right.left} f)
          ∗ ℓ ↦[I]{fullShare.right.right.right} f) := by
  rw [h, ← share_split, ← share_split]; exact share_split
/-- Rows of which two messages send a half each: the piece's share, and one half for each message. -/
theorem split_halves (h : I' = I) (hI : I = J ∪ J') (hJ : Disjoint J J') :
    (ℓ ↦[I]{fullShare} f : sProp 𝕄)
      = iprop((ℓ ↦[I']{fullShare.left} f) ∗ (ℓ ↦[J]{fullShare.right} f) ∗ ℓ ↦[J']{fullShare.right} f) := by
  rw [h, ← set_split hJ, ← hI]; exact share_split

end Divide

/-! ## Messages and pieces -/

/-- The messages that forward what message `i` brings. -/
def cons : Fin 24 → Finset (Fin 24) := ![{2, 4}, {5}, {6, 7}, ∅, ∅, ∅, ∅, ∅, {10, 12}, {13}, {14, 15}, ∅, ∅, ∅, ∅, ∅, {18, 20}, {21}, {22, 23}, ∅, ∅, ∅, ∅, ∅]
/-- The piece computed from what message `i` brings. -/
def pieceOf : Fin 24 → Fin 27 := ![1, 2, 3, 4, 5, 6, 7, 8, 10, 11, 12, 13, 14, 15, 16, 17, 19, 20, 21, 22, 23, 24, 25, 26]

/-! The rows each piece loads, as the view they arrived through. -/

/-- The load of the own rows of row group 0 reads all of them. -/
theorem acc_own0 : (own0.access (Rect.unit (s := S688x1024) ![0, 0] S688x1024.size inb_S688x1024_S688x1024_0_0)).set = own0.view.set :=
  access_rows_set 0 _ _ _
/-- Slot 3 of gather buffer 0 is its two halves, -/
theorem halves0_3 : slot0_3.view.set = half0_3_0.view.set ∪ half0_3_1.view.set :=
  slot_halves gat0 3 344 (by decide) _ (fun _ => rfl) squeezes_S1x688x1024_S688x1024 _ (fun _ => rfl) squeezes_S1x344x1024_S344x1024 _ (fun _ => rfl)
/-- which share no element. -/
theorem disjoint0_3 : Disjoint half0_3_0.view.set half0_3_1.view.set :=
  slot_disjoint gat0 3 344 _ (fun _ => rfl) squeezes_S1x344x1024_S344x1024 _ (fun _ => rfl)
/-- Slot 7 of gather buffer 0 is its two halves, -/
theorem halves0_7 : slot0_7.view.set = half0_7_0.view.set ∪ half0_7_1.view.set :=
  slot_halves gat0 7 344 (by decide) _ (fun _ => rfl) squeezes_S1x688x1024_S688x1024 _ (fun _ => rfl) squeezes_S1x344x1024_S344x1024 _ (fun _ => rfl)
/-- which share no element. -/
theorem disjoint0_7 : Disjoint half0_7_0.view.set half0_7_1.view.set :=
  slot_disjoint gat0 7 344 _ (fun _ => rfl) squeezes_S1x344x1024_S344x1024 _ (fun _ => rfl)
/-- The load of slot 1 of gather buffer 0 reads all of it. -/
theorem acc_slot0_1 : (slot0_1.access (Rect.unit (s := S688x1024) ![0, 0] S688x1024.size inb_S688x1024_S688x1024_0_0)).set = slot0_1.view.set :=
  access_slot_set gat0 1 0 _ _ _ _ _ _ _
/-- The load of slot 2 of gather buffer 0 reads all of it. -/
theorem acc_slot0_2 : (slot0_2.access (Rect.unit (s := S688x1024) ![0, 0] S688x1024.size inb_S688x1024_S688x1024_0_0)).set = slot0_2.view.set :=
  access_slot_set gat0 2 0 _ _ _ _ _ _ _
/-- The load of slot 3 of gather buffer 0 reads all of it. -/
theorem acc_slot0_3 : (slot0_3.access (Rect.unit (s := S688x1024) ![0, 0] S688x1024.size inb_S688x1024_S688x1024_0_0)).set = slot0_3.view.set :=
  access_slot_set gat0 3 0 _ _ _ _ _ _ _
/-- The load of slot 4 of gather buffer 0 reads all of it. -/
theorem acc_slot0_4 : (slot0_4.access (Rect.unit (s := S688x1024) ![0, 0] S688x1024.size inb_S688x1024_S688x1024_0_0)).set = slot0_4.view.set :=
  access_slot_set gat0 4 0 _ _ _ _ _ _ _
/-- The load of slot 5 of gather buffer 0 reads all of it. -/
theorem acc_slot0_5 : (slot0_5.access (Rect.unit (s := S688x1024) ![0, 0] S688x1024.size inb_S688x1024_S688x1024_0_0)).set = slot0_5.view.set :=
  access_slot_set gat0 5 0 _ _ _ _ _ _ _
/-- The load of slot 6 of gather buffer 0 reads all of it. -/
theorem acc_slot0_6 : (slot0_6.access (Rect.unit (s := S688x1024) ![0, 0] S688x1024.size inb_S688x1024_S688x1024_0_0)).set = slot0_6.view.set :=
  access_slot_set gat0 6 0 _ _ _ _ _ _ _
/-- A half's load of slot 7 of gather buffer 0 reads half 0. -/
theorem acc_half0_7_0 : (slot0_7.access (Rect.unit (s := S688x1024) ![0, 0] S344x1024.size inb_S688x1024_S344x1024_0_0)).set = half0_7_0.view.set :=
  access_slot_set gat0 7 0 _ _ _ _ _ _ _
/-- A half's load of slot 7 of gather buffer 0 reads half 1. -/
theorem acc_half0_7_1 : (slot0_7.access (Rect.unit (s := S688x1024) ![344, 0] S344x1024.size inb_S688x1024_S344x1024_344_0)).set = half0_7_1.view.set :=
  access_slot_set gat0 7 344 _ _ _ _ _ _ _
/-- The load of the own rows of row group 1 reads all of them. -/
theorem acc_own1 : (own1.access (Rect.unit (s := S688x1024) ![0, 0] S688x1024.size inb_S688x1024_S688x1024_0_0)).set = own1.view.set :=
  access_rows_set 688 _ _ _
/-- Slot 3 of gather buffer 1 is its two halves, -/
theorem halves1_3 : slot1_3.view.set = half1_3_0.view.set ∪ half1_3_1.view.set :=
  slot_halves gat1 3 344 (by decide) _ (fun _ => rfl) squeezes_S1x688x1024_S688x1024 _ (fun _ => rfl) squeezes_S1x344x1024_S344x1024 _ (fun _ => rfl)
/-- which share no element. -/
theorem disjoint1_3 : Disjoint half1_3_0.view.set half1_3_1.view.set :=
  slot_disjoint gat1 3 344 _ (fun _ => rfl) squeezes_S1x344x1024_S344x1024 _ (fun _ => rfl)
/-- Slot 7 of gather buffer 1 is its two halves, -/
theorem halves1_7 : slot1_7.view.set = half1_7_0.view.set ∪ half1_7_1.view.set :=
  slot_halves gat1 7 344 (by decide) _ (fun _ => rfl) squeezes_S1x688x1024_S688x1024 _ (fun _ => rfl) squeezes_S1x344x1024_S344x1024 _ (fun _ => rfl)
/-- which share no element. -/
theorem disjoint1_7 : Disjoint half1_7_0.view.set half1_7_1.view.set :=
  slot_disjoint gat1 7 344 _ (fun _ => rfl) squeezes_S1x344x1024_S344x1024 _ (fun _ => rfl)
/-- The load of slot 1 of gather buffer 1 reads all of it. -/
theorem acc_slot1_1 : (slot1_1.access (Rect.unit (s := S688x1024) ![0, 0] S688x1024.size inb_S688x1024_S688x1024_0_0)).set = slot1_1.view.set :=
  access_slot_set gat1 1 0 _ _ _ _ _ _ _
/-- The load of slot 2 of gather buffer 1 reads all of it. -/
theorem acc_slot1_2 : (slot1_2.access (Rect.unit (s := S688x1024) ![0, 0] S688x1024.size inb_S688x1024_S688x1024_0_0)).set = slot1_2.view.set :=
  access_slot_set gat1 2 0 _ _ _ _ _ _ _
/-- The load of slot 3 of gather buffer 1 reads all of it. -/
theorem acc_slot1_3 : (slot1_3.access (Rect.unit (s := S688x1024) ![0, 0] S688x1024.size inb_S688x1024_S688x1024_0_0)).set = slot1_3.view.set :=
  access_slot_set gat1 3 0 _ _ _ _ _ _ _
/-- The load of slot 4 of gather buffer 1 reads all of it. -/
theorem acc_slot1_4 : (slot1_4.access (Rect.unit (s := S688x1024) ![0, 0] S688x1024.size inb_S688x1024_S688x1024_0_0)).set = slot1_4.view.set :=
  access_slot_set gat1 4 0 _ _ _ _ _ _ _
/-- The load of slot 5 of gather buffer 1 reads all of it. -/
theorem acc_slot1_5 : (slot1_5.access (Rect.unit (s := S688x1024) ![0, 0] S688x1024.size inb_S688x1024_S688x1024_0_0)).set = slot1_5.view.set :=
  access_slot_set gat1 5 0 _ _ _ _ _ _ _
/-- The load of slot 6 of gather buffer 1 reads all of it. -/
theorem acc_slot1_6 : (slot1_6.access (Rect.unit (s := S688x1024) ![0, 0] S688x1024.size inb_S688x1024_S688x1024_0_0)).set = slot1_6.view.set :=
  access_slot_set gat1 6 0 _ _ _ _ _ _ _
/-- A half's load of slot 7 of gather buffer 1 reads half 0. -/
theorem acc_half1_7_0 : (slot1_7.access (Rect.unit (s := S688x1024) ![0, 0] S344x1024.size inb_S688x1024_S344x1024_0_0)).set = half1_7_0.view.set :=
  access_slot_set gat1 7 0 _ _ _ _ _ _ _
/-- A half's load of slot 7 of gather buffer 1 reads half 1. -/
theorem acc_half1_7_1 : (slot1_7.access (Rect.unit (s := S688x1024) ![344, 0] S344x1024.size inb_S688x1024_S344x1024_344_0)).set = half1_7_1.view.set :=
  access_slot_set gat1 7 344 _ _ _ _ _ _ _
/-- The load of the own rows of row group 2 reads all of them. -/
theorem acc_own2 : (own2.access (Rect.unit (s := S672x1024) ![0, 0] S672x1024.size inb_S672x1024_S672x1024_0_0)).set = own2.view.set :=
  access_rows_set 1376 _ _ _
/-- Slot 3 of gather buffer 2 is its two halves, -/
theorem halves2_3 : slot2_3.view.set = half2_3_0.view.set ∪ half2_3_1.view.set :=
  slot_halves gat2 3 336 (by decide) _ (fun _ => rfl) squeezes_S1x672x1024_S672x1024 _ (fun _ => rfl) squeezes_S1x336x1024_S336x1024 _ (fun _ => rfl)
/-- which share no element. -/
theorem disjoint2_3 : Disjoint half2_3_0.view.set half2_3_1.view.set :=
  slot_disjoint gat2 3 336 _ (fun _ => rfl) squeezes_S1x336x1024_S336x1024 _ (fun _ => rfl)
/-- Slot 7 of gather buffer 2 is its two halves, -/
theorem halves2_7 : slot2_7.view.set = half2_7_0.view.set ∪ half2_7_1.view.set :=
  slot_halves gat2 7 336 (by decide) _ (fun _ => rfl) squeezes_S1x672x1024_S672x1024 _ (fun _ => rfl) squeezes_S1x336x1024_S336x1024 _ (fun _ => rfl)
/-- which share no element. -/
theorem disjoint2_7 : Disjoint half2_7_0.view.set half2_7_1.view.set :=
  slot_disjoint gat2 7 336 _ (fun _ => rfl) squeezes_S1x336x1024_S336x1024 _ (fun _ => rfl)
/-- The load of slot 1 of gather buffer 2 reads all of it. -/
theorem acc_slot2_1 : (slot2_1.access (Rect.unit (s := S672x1024) ![0, 0] S672x1024.size inb_S672x1024_S672x1024_0_0)).set = slot2_1.view.set :=
  access_slot_set gat2 1 0 _ _ _ _ _ _ _
/-- The load of slot 2 of gather buffer 2 reads all of it. -/
theorem acc_slot2_2 : (slot2_2.access (Rect.unit (s := S672x1024) ![0, 0] S672x1024.size inb_S672x1024_S672x1024_0_0)).set = slot2_2.view.set :=
  access_slot_set gat2 2 0 _ _ _ _ _ _ _
/-- The load of slot 3 of gather buffer 2 reads all of it. -/
theorem acc_slot2_3 : (slot2_3.access (Rect.unit (s := S672x1024) ![0, 0] S672x1024.size inb_S672x1024_S672x1024_0_0)).set = slot2_3.view.set :=
  access_slot_set gat2 3 0 _ _ _ _ _ _ _
/-- The load of slot 4 of gather buffer 2 reads all of it. -/
theorem acc_slot2_4 : (slot2_4.access (Rect.unit (s := S672x1024) ![0, 0] S672x1024.size inb_S672x1024_S672x1024_0_0)).set = slot2_4.view.set :=
  access_slot_set gat2 4 0 _ _ _ _ _ _ _
/-- The load of slot 5 of gather buffer 2 reads all of it. -/
theorem acc_slot2_5 : (slot2_5.access (Rect.unit (s := S672x1024) ![0, 0] S672x1024.size inb_S672x1024_S672x1024_0_0)).set = slot2_5.view.set :=
  access_slot_set gat2 5 0 _ _ _ _ _ _ _
/-- The load of slot 6 of gather buffer 2 reads all of it. -/
theorem acc_slot2_6 : (slot2_6.access (Rect.unit (s := S672x1024) ![0, 0] S672x1024.size inb_S672x1024_S672x1024_0_0)).set = slot2_6.view.set :=
  access_slot_set gat2 6 0 _ _ _ _ _ _ _
/-- A half's load of slot 7 of gather buffer 2 reads half 0. -/
theorem acc_half2_7_0 : (slot2_7.access (Rect.unit (s := S672x1024) ![0, 0] S336x1024.size inb_S672x1024_S336x1024_0_0)).set = half2_7_0.view.set :=
  access_slot_set gat2 7 0 _ _ _ _ _ _ _
/-- A half's load of slot 7 of gather buffer 2 reads half 1. -/
theorem acc_half2_7_1 : (slot2_7.access (Rect.unit (s := S672x1024) ![336, 0] S336x1024.size inb_S672x1024_S336x1024_336_0)).set = half2_7_1.view.set :=
  access_slot_set gat2 7 336 _ _ _ _ _ _ _

variable (A : Dev nD → S2048x1024.Idx → Elt F .bf16)

/-- The rows piece `p` is computed from, in the share it loads them through. -/
def avail (c : Dev nD) (p : Fin 27) : sProp 𝕄 :=
  ((pc p).lv.access (pc p).lr).loc (c : Thread nD τ) ↦[((pc p).lv.access (pc p).lr).set]{(pc p).q} (pc p).lvC A c

/-- What a message brings goes to the piece computed from it and to the messages that forward it. -/
theorem got_split (c : Dev nD) (i : Fin 24) :
    dstPts A c i = iprop(avail A c (pieceOf i) ∗ bigSep (cons i) fun i' => srcPts A c i') := by
  revert i
  apply cases24
  · show (slot0_1.view.loc (c : Thread nD τ) ↦[slot0_1.view.set]{fullShare} gatC0 A c : sProp 𝕄)
      = iprop(((slot0_1.access (Rect.unit (s := S688x1024) ![0, 0] S688x1024.size inb_S688x1024_S688x1024_0_0)).loc (c : Thread nD τ) ↦[(slot0_1.access (Rect.unit (s := S688x1024) ![0, 0] S688x1024.size inb_S688x1024_S688x1024_0_0)).set]{fullShare.left} gatC0 A c) ∗ bigSep ({2, 4} : Finset (Fin 24)) fun i' => srcPts A c i')
    rw [acc_slot0_1, bigSep_pair (by decide)]; exact split_three rfl
  · show (slot0_2.view.loc (c : Thread nD τ) ↦[slot0_2.view.set]{fullShare} gatC0 A c : sProp 𝕄)
      = iprop(((slot0_2.access (Rect.unit (s := S688x1024) ![0, 0] S688x1024.size inb_S688x1024_S688x1024_0_0)).loc (c : Thread nD τ) ↦[(slot0_2.access (Rect.unit (s := S688x1024) ![0, 0] S688x1024.size inb_S688x1024_S688x1024_0_0)).set]{fullShare.left} gatC0 A c) ∗ bigSep ({5} : Finset (Fin 24)) fun i' => srcPts A c i')
    rw [acc_slot0_2, bigSep_singleton]; exact split_two rfl
  · show (slot0_3.view.loc (c : Thread nD τ) ↦[slot0_3.view.set]{fullShare} gatC0 A c : sProp 𝕄)
      = iprop(((slot0_3.access (Rect.unit (s := S688x1024) ![0, 0] S688x1024.size inb_S688x1024_S688x1024_0_0)).loc (c : Thread nD τ) ↦[(slot0_3.access (Rect.unit (s := S688x1024) ![0, 0] S688x1024.size inb_S688x1024_S688x1024_0_0)).set]{fullShare.left} gatC0 A c) ∗ bigSep ({6, 7} : Finset (Fin 24)) fun i' => srcPts A c i')
    rw [acc_slot0_3, bigSep_pair (by decide)]; exact split_halves rfl halves0_3 disjoint0_3
  · show (slot0_4.view.loc (c : Thread nD τ) ↦[slot0_4.view.set]{fullShare} gatC0 A c : sProp 𝕄)
      = iprop(((slot0_4.access (Rect.unit (s := S688x1024) ![0, 0] S688x1024.size inb_S688x1024_S688x1024_0_0)).loc (c : Thread nD τ) ↦[(slot0_4.access (Rect.unit (s := S688x1024) ![0, 0] S688x1024.size inb_S688x1024_S688x1024_0_0)).set]{fullShare} gatC0 A c) ∗ bigSep (∅ : Finset (Fin 24)) fun i' => srcPts A c i')
    rw [acc_slot0_4, bigSep_empty]; exact split_none rfl
  · show (slot0_5.view.loc (c : Thread nD τ) ↦[slot0_5.view.set]{fullShare} gatC0 A c : sProp 𝕄)
      = iprop(((slot0_5.access (Rect.unit (s := S688x1024) ![0, 0] S688x1024.size inb_S688x1024_S688x1024_0_0)).loc (c : Thread nD τ) ↦[(slot0_5.access (Rect.unit (s := S688x1024) ![0, 0] S688x1024.size inb_S688x1024_S688x1024_0_0)).set]{fullShare} gatC0 A c) ∗ bigSep (∅ : Finset (Fin 24)) fun i' => srcPts A c i')
    rw [acc_slot0_5, bigSep_empty]; exact split_none rfl
  · show (slot0_6.view.loc (c : Thread nD τ) ↦[slot0_6.view.set]{fullShare} gatC0 A c : sProp 𝕄)
      = iprop(((slot0_6.access (Rect.unit (s := S688x1024) ![0, 0] S688x1024.size inb_S688x1024_S688x1024_0_0)).loc (c : Thread nD τ) ↦[(slot0_6.access (Rect.unit (s := S688x1024) ![0, 0] S688x1024.size inb_S688x1024_S688x1024_0_0)).set]{fullShare} gatC0 A c) ∗ bigSep (∅ : Finset (Fin 24)) fun i' => srcPts A c i')
    rw [acc_slot0_6, bigSep_empty]; exact split_none rfl
  · show (half0_7_0.view.loc (c : Thread nD τ) ↦[half0_7_0.view.set]{fullShare} gatC0 A c : sProp 𝕄)
      = iprop(((slot0_7.access (Rect.unit (s := S688x1024) ![0, 0] S344x1024.size inb_S688x1024_S344x1024_0_0)).loc (c : Thread nD τ) ↦[(slot0_7.access (Rect.unit (s := S688x1024) ![0, 0] S344x1024.size inb_S688x1024_S344x1024_0_0)).set]{fullShare} gatC0 A c) ∗ bigSep (∅ : Finset (Fin 24)) fun i' => srcPts A c i')
    rw [acc_half0_7_0, bigSep_empty]; exact split_none rfl
  · show (half0_7_1.view.loc (c : Thread nD τ) ↦[half0_7_1.view.set]{fullShare} gatC0 A c : sProp 𝕄)
      = iprop(((slot0_7.access (Rect.unit (s := S688x1024) ![344, 0] S344x1024.size inb_S688x1024_S344x1024_344_0)).loc (c : Thread nD τ) ↦[(slot0_7.access (Rect.unit (s := S688x1024) ![344, 0] S344x1024.size inb_S688x1024_S344x1024_344_0)).set]{fullShare} gatC0 A c) ∗ bigSep (∅ : Finset (Fin 24)) fun i' => srcPts A c i')
    rw [acc_half0_7_1, bigSep_empty]; exact split_none rfl
  · show (slot1_1.view.loc (c : Thread nD τ) ↦[slot1_1.view.set]{fullShare} gatC1 A c : sProp 𝕄)
      = iprop(((slot1_1.access (Rect.unit (s := S688x1024) ![0, 0] S688x1024.size inb_S688x1024_S688x1024_0_0)).loc (c : Thread nD τ) ↦[(slot1_1.access (Rect.unit (s := S688x1024) ![0, 0] S688x1024.size inb_S688x1024_S688x1024_0_0)).set]{fullShare.left} gatC1 A c) ∗ bigSep ({10, 12} : Finset (Fin 24)) fun i' => srcPts A c i')
    rw [acc_slot1_1, bigSep_pair (by decide)]; exact split_three rfl
  · show (slot1_2.view.loc (c : Thread nD τ) ↦[slot1_2.view.set]{fullShare} gatC1 A c : sProp 𝕄)
      = iprop(((slot1_2.access (Rect.unit (s := S688x1024) ![0, 0] S688x1024.size inb_S688x1024_S688x1024_0_0)).loc (c : Thread nD τ) ↦[(slot1_2.access (Rect.unit (s := S688x1024) ![0, 0] S688x1024.size inb_S688x1024_S688x1024_0_0)).set]{fullShare.left} gatC1 A c) ∗ bigSep ({13} : Finset (Fin 24)) fun i' => srcPts A c i')
    rw [acc_slot1_2, bigSep_singleton]; exact split_two rfl
  · show (slot1_3.view.loc (c : Thread nD τ) ↦[slot1_3.view.set]{fullShare} gatC1 A c : sProp 𝕄)
      = iprop(((slot1_3.access (Rect.unit (s := S688x1024) ![0, 0] S688x1024.size inb_S688x1024_S688x1024_0_0)).loc (c : Thread nD τ) ↦[(slot1_3.access (Rect.unit (s := S688x1024) ![0, 0] S688x1024.size inb_S688x1024_S688x1024_0_0)).set]{fullShare.left} gatC1 A c) ∗ bigSep ({14, 15} : Finset (Fin 24)) fun i' => srcPts A c i')
    rw [acc_slot1_3, bigSep_pair (by decide)]; exact split_halves rfl halves1_3 disjoint1_3
  · show (slot1_4.view.loc (c : Thread nD τ) ↦[slot1_4.view.set]{fullShare} gatC1 A c : sProp 𝕄)
      = iprop(((slot1_4.access (Rect.unit (s := S688x1024) ![0, 0] S688x1024.size inb_S688x1024_S688x1024_0_0)).loc (c : Thread nD τ) ↦[(slot1_4.access (Rect.unit (s := S688x1024) ![0, 0] S688x1024.size inb_S688x1024_S688x1024_0_0)).set]{fullShare} gatC1 A c) ∗ bigSep (∅ : Finset (Fin 24)) fun i' => srcPts A c i')
    rw [acc_slot1_4, bigSep_empty]; exact split_none rfl
  · show (slot1_5.view.loc (c : Thread nD τ) ↦[slot1_5.view.set]{fullShare} gatC1 A c : sProp 𝕄)
      = iprop(((slot1_5.access (Rect.unit (s := S688x1024) ![0, 0] S688x1024.size inb_S688x1024_S688x1024_0_0)).loc (c : Thread nD τ) ↦[(slot1_5.access (Rect.unit (s := S688x1024) ![0, 0] S688x1024.size inb_S688x1024_S688x1024_0_0)).set]{fullShare} gatC1 A c) ∗ bigSep (∅ : Finset (Fin 24)) fun i' => srcPts A c i')
    rw [acc_slot1_5, bigSep_empty]; exact split_none rfl
  · show (slot1_6.view.loc (c : Thread nD τ) ↦[slot1_6.view.set]{fullShare} gatC1 A c : sProp 𝕄)
      = iprop(((slot1_6.access (Rect.unit (s := S688x1024) ![0, 0] S688x1024.size inb_S688x1024_S688x1024_0_0)).loc (c : Thread nD τ) ↦[(slot1_6.access (Rect.unit (s := S688x1024) ![0, 0] S688x1024.size inb_S688x1024_S688x1024_0_0)).set]{fullShare} gatC1 A c) ∗ bigSep (∅ : Finset (Fin 24)) fun i' => srcPts A c i')
    rw [acc_slot1_6, bigSep_empty]; exact split_none rfl
  · show (half1_7_0.view.loc (c : Thread nD τ) ↦[half1_7_0.view.set]{fullShare} gatC1 A c : sProp 𝕄)
      = iprop(((slot1_7.access (Rect.unit (s := S688x1024) ![0, 0] S344x1024.size inb_S688x1024_S344x1024_0_0)).loc (c : Thread nD τ) ↦[(slot1_7.access (Rect.unit (s := S688x1024) ![0, 0] S344x1024.size inb_S688x1024_S344x1024_0_0)).set]{fullShare} gatC1 A c) ∗ bigSep (∅ : Finset (Fin 24)) fun i' => srcPts A c i')
    rw [acc_half1_7_0, bigSep_empty]; exact split_none rfl
  · show (half1_7_1.view.loc (c : Thread nD τ) ↦[half1_7_1.view.set]{fullShare} gatC1 A c : sProp 𝕄)
      = iprop(((slot1_7.access (Rect.unit (s := S688x1024) ![344, 0] S344x1024.size inb_S688x1024_S344x1024_344_0)).loc (c : Thread nD τ) ↦[(slot1_7.access (Rect.unit (s := S688x1024) ![344, 0] S344x1024.size inb_S688x1024_S344x1024_344_0)).set]{fullShare} gatC1 A c) ∗ bigSep (∅ : Finset (Fin 24)) fun i' => srcPts A c i')
    rw [acc_half1_7_1, bigSep_empty]; exact split_none rfl
  · show (slot2_1.view.loc (c : Thread nD τ) ↦[slot2_1.view.set]{fullShare} gatC2 A c : sProp 𝕄)
      = iprop(((slot2_1.access (Rect.unit (s := S672x1024) ![0, 0] S672x1024.size inb_S672x1024_S672x1024_0_0)).loc (c : Thread nD τ) ↦[(slot2_1.access (Rect.unit (s := S672x1024) ![0, 0] S672x1024.size inb_S672x1024_S672x1024_0_0)).set]{fullShare.left} gatC2 A c) ∗ bigSep ({18, 20} : Finset (Fin 24)) fun i' => srcPts A c i')
    rw [acc_slot2_1, bigSep_pair (by decide)]; exact split_three rfl
  · show (slot2_2.view.loc (c : Thread nD τ) ↦[slot2_2.view.set]{fullShare} gatC2 A c : sProp 𝕄)
      = iprop(((slot2_2.access (Rect.unit (s := S672x1024) ![0, 0] S672x1024.size inb_S672x1024_S672x1024_0_0)).loc (c : Thread nD τ) ↦[(slot2_2.access (Rect.unit (s := S672x1024) ![0, 0] S672x1024.size inb_S672x1024_S672x1024_0_0)).set]{fullShare.left} gatC2 A c) ∗ bigSep ({21} : Finset (Fin 24)) fun i' => srcPts A c i')
    rw [acc_slot2_2, bigSep_singleton]; exact split_two rfl
  · show (slot2_3.view.loc (c : Thread nD τ) ↦[slot2_3.view.set]{fullShare} gatC2 A c : sProp 𝕄)
      = iprop(((slot2_3.access (Rect.unit (s := S672x1024) ![0, 0] S672x1024.size inb_S672x1024_S672x1024_0_0)).loc (c : Thread nD τ) ↦[(slot2_3.access (Rect.unit (s := S672x1024) ![0, 0] S672x1024.size inb_S672x1024_S672x1024_0_0)).set]{fullShare.left} gatC2 A c) ∗ bigSep ({22, 23} : Finset (Fin 24)) fun i' => srcPts A c i')
    rw [acc_slot2_3, bigSep_pair (by decide)]; exact split_halves rfl halves2_3 disjoint2_3
  · show (slot2_4.view.loc (c : Thread nD τ) ↦[slot2_4.view.set]{fullShare} gatC2 A c : sProp 𝕄)
      = iprop(((slot2_4.access (Rect.unit (s := S672x1024) ![0, 0] S672x1024.size inb_S672x1024_S672x1024_0_0)).loc (c : Thread nD τ) ↦[(slot2_4.access (Rect.unit (s := S672x1024) ![0, 0] S672x1024.size inb_S672x1024_S672x1024_0_0)).set]{fullShare} gatC2 A c) ∗ bigSep (∅ : Finset (Fin 24)) fun i' => srcPts A c i')
    rw [acc_slot2_4, bigSep_empty]; exact split_none rfl
  · show (slot2_5.view.loc (c : Thread nD τ) ↦[slot2_5.view.set]{fullShare} gatC2 A c : sProp 𝕄)
      = iprop(((slot2_5.access (Rect.unit (s := S672x1024) ![0, 0] S672x1024.size inb_S672x1024_S672x1024_0_0)).loc (c : Thread nD τ) ↦[(slot2_5.access (Rect.unit (s := S672x1024) ![0, 0] S672x1024.size inb_S672x1024_S672x1024_0_0)).set]{fullShare} gatC2 A c) ∗ bigSep (∅ : Finset (Fin 24)) fun i' => srcPts A c i')
    rw [acc_slot2_5, bigSep_empty]; exact split_none rfl
  · show (slot2_6.view.loc (c : Thread nD τ) ↦[slot2_6.view.set]{fullShare} gatC2 A c : sProp 𝕄)
      = iprop(((slot2_6.access (Rect.unit (s := S672x1024) ![0, 0] S672x1024.size inb_S672x1024_S672x1024_0_0)).loc (c : Thread nD τ) ↦[(slot2_6.access (Rect.unit (s := S672x1024) ![0, 0] S672x1024.size inb_S672x1024_S672x1024_0_0)).set]{fullShare} gatC2 A c) ∗ bigSep (∅ : Finset (Fin 24)) fun i' => srcPts A c i')
    rw [acc_slot2_6, bigSep_empty]; exact split_none rfl
  · show (half2_7_0.view.loc (c : Thread nD τ) ↦[half2_7_0.view.set]{fullShare} gatC2 A c : sProp 𝕄)
      = iprop(((slot2_7.access (Rect.unit (s := S672x1024) ![0, 0] S336x1024.size inb_S672x1024_S336x1024_0_0)).loc (c : Thread nD τ) ↦[(slot2_7.access (Rect.unit (s := S672x1024) ![0, 0] S336x1024.size inb_S672x1024_S336x1024_0_0)).set]{fullShare} gatC2 A c) ∗ bigSep (∅ : Finset (Fin 24)) fun i' => srcPts A c i')
    rw [acc_half2_7_0, bigSep_empty]; exact split_none rfl
  · show (half2_7_1.view.loc (c : Thread nD τ) ↦[half2_7_1.view.set]{fullShare} gatC2 A c : sProp 𝕄)
      = iprop(((slot2_7.access (Rect.unit (s := S672x1024) ![336, 0] S336x1024.size inb_S672x1024_S336x1024_336_0)).loc (c : Thread nD τ) ↦[(slot2_7.access (Rect.unit (s := S672x1024) ![336, 0] S336x1024.size inb_S672x1024_S336x1024_336_0)).set]{fullShare} gatC2 A c) ∗ bigSep (∅ : Finset (Fin 24)) fun i' => srcPts A c i')
    rw [acc_half2_7_1, bigSep_empty]; exact split_none rfl

/-- A device's own rows go to the piece computed from them and to the three messages that carry them. -/
theorem own_split (c : Dev nD) :
    ((own0.view.loc (c : Thread nD τ) ↦[own0.view.set]{fullShare} A c) = (iprop(avail A c 0 ∗ srcPts A c 0 ∗ srcPts A c 1 ∗ srcPts A c 3) : sProp 𝕄))
    ∧ ((own1.view.loc (c : Thread nD τ) ↦[own1.view.set]{fullShare} A c) = (iprop(avail A c 9 ∗ srcPts A c 8 ∗ srcPts A c 9 ∗ srcPts A c 11) : sProp 𝕄))
    ∧ ((own2.view.loc (c : Thread nD τ) ↦[own2.view.set]{fullShare} A c) = (iprop(avail A c 18 ∗ srcPts A c 16 ∗ srcPts A c 17 ∗ srcPts A c 19) : sProp 𝕄)) := by
  refine ⟨?_, ?_, ?_⟩
  · exact split_four acc_own0
  · exact split_four acc_own1
  · exact split_four acc_own2

end Cert.KernelIdeal.Gather

end
-- ==== Proof.Steps.lean ====
/- What each step of the body does to what the device holds. -/
module

public import proofs.«01_k».proof.Proof.Splits

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

abbrev 𝒱₀ : Variants := Variants.none

variable (A : Dev nD → S2048x1024.Idx → Elt F .bf16) (B : Dev nD → S1024x2048.Idx → Elt F .bf16)

/-! ## The persistent part -/

/-- Every cell's invariant, the round it has reached, and the levels. -/
def records (K : Dev nD × CI → ℕ) : sProp 𝕄 :=
  iprop((bigSep Finset.univ fun x : Dev nD × CI => cellInv ER (Rd A) (K x) (cell x.1 x.2))
    ∗ (bigSep Finset.univ fun x : Dev nD × CI => reached ER (cell x.1 x.2) 0) ∗ levAts L lev)
instance records_persistent (K : Dev nD × CI → ℕ) : BI.Persistent (records A K) := by unfold records; infer_instance

omit [FloatOps F] in
/-- The records hold every cell's invariant, -/
theorem records_inv (K : Dev nD × CI → ℕ) (c : Dev nD) (x : CI) : records A K ⊢ cellInv ER (Rd A) (K (c, x)) (cell c x) := by
  unfold records; iintro ⟨H, -, -⟩
  iapply (show _ ⊢ _ from bigSep_elim (Φ := fun x : Dev nD × CI => cellInv ER (Rd A) (K x) (cell x.1 x.2)) (Finset.mem_univ (c, x))); iexact H
omit [FloatOps F] in
/-- that every cell has reached its round, -/
theorem records_reached (K : Dev nD × CI → ℕ) (c : Dev nD) (x : CI) : records A K ⊢ reached ER (cell c x) 0 := by
  unfold records; iintro ⟨-, H, -⟩
  iapply (show _ ⊢ _ from bigSep_elim (Φ := fun x : Dev nD × CI => (reached ER (cell x.1 x.2) 0 : sProp 𝕄)) (Finset.mem_univ (c, x))); iexact H
omit [FloatOps F] in
/-- and every cell's level. -/
theorem records_lev (K : Dev nD × CI → ℕ) : records A K ⊢ levAts L lev := by
  unfold records; iintro ⟨-, -, H⟩; iexact H

/-! ## What a device holds for a message, by how far the message is -/

/-- Before it is sent. -/
def toks (c : Dev nD) (i : Fin 24) : sProp 𝕄 :=
  iprop(dutyTok ER (sendCell c i) 0 0 ∗ dutyTok ER (recvCell ((msg i).peer c) i) 0 0)
def waits (c : Dev nD) (i : Fin 24) : sProp 𝕄 :=
  iprop(atPos ER (sendCell c i) 0 ∅ 0 ∗ atPos ER (recvCell c i) 0 ∅ 0 ∗ cred (tallyAt (recvCell c i) () (amt i)))
def todoR (c : Dev nD) (i : Fin 24) : sProp 𝕄 := iprop(toks c i ∗ waits c i ∗ dstAny (F := F) ((msg i).peer c) i)
/-- Between its send and its wait. -/
def flyR (c : Dev nD) (i : Fin 24) : sProp 𝕄 := iprop(cred (tallyAt (sendCell c i) () (amt i)) ∗ waits (F := F) c i)
/-- After its wait. -/
def gotR (c : Dev nD) (i : Fin 24) : sProp 𝕄 := iprop(atPos ER (sendCell c i) 1 ∅ 0 ∗ atPos ER (recvCell c i) 1 ∅ 0)

/-- The debt for the messages not yet sent. -/
def owed (c : Dev nD) (T : Finset (Fin 24)) : sProp 𝕄 := iprop(∃ W, owes (c : Thread nD τ) (oweMsgs c T) W)

omit [FloatOps F] in
/-- Contents a view reads as what is written there are what the write leaves. -/
theorem write_of_read {κ : Kind} {sp : Space} {s : Shape} {e : EltTy} (v : View sig κ sp s e) (f fd : v.ty.Contents (Elt F)) (w : s.Idx → Elt F e)
    (h : v.read (Elt F) f = w) : ∀ x ∈ v.set, v.write (Elt F) fd w Finset.univ x = f x := fun x hx => by
  subst h
  rw [View.write_read_eq_piecewise, View.setOn_univ, Finset.piecewise_eq_of_mem _ _ _ hx]

variable {A} in
/-- Sending message `i`: its source share and its landing area go, its debt is paid. -/
theorem wp_send_msg (K : Dev nD × CI → ℕ) (c : Dev nD) (i : Fin 24) {T : Finset (Fin 24)} (hi : i ∈ T)
    {α : Type} {Q : α → sProp 𝕄} {k : PUnit → Prog (TpuEff nD τ sig (Elt F) Λ₀ .tc) α} :
    iprop(records A K ∗ owed c T ∗ todoR c i ∗ srcPts A c i)
      ⊢ iprop(((owed c (T.erase i) ∗ flyR c i) -∗ wp frame (wpE (defs₀ (F := F)) 𝒱₀ (c : Thread nD τ) none) Set.univ (k ⟨⟩) Q)
          -∗ wp frame (wpE (defs₀ (F := F)) 𝒱₀ (c : Thread nD τ) none) Set.univ (stepProg c (.send i) >>= k) Q) := by
  unfold owed todoR toks srcPts dstAny flyR
  show _ ⊢ iprop(_ -∗ wp frame _ _ (.op (.enqueueDma (msg i).src (.remote (Dev.tc ((msg i).peer c)) (msg i).dst (.dma (msg i).sS) (msg i).hsc) (.dma (msg i).sR)
      (msg i).hsrc (msg i).hdst ⟨⟨rfl, Or.inl rfl⟩, trivial⟩) k) Q)
  iintro ⟨#HR, ⟨%W, HO⟩, ⟨⟨HtS, HtR⟩, Hw, ⟨%fd, Hd⟩⟩, Hs⟩ Hk
  iapply (Rounds.wp_send_pointsTo 𝒱₀ ER (Rd A) (c : Thread nD τ) none (κ₁ := K (c, some (false, i))) (κ₂ := K ((msg i).peer c, some (true, i)))
    (r₁ := 0) (r₂ := 0) (d₁ := 0) (d₂ := 0) (fd := fd)
    (by rw [duties_send]; exact Finset.mem_singleton_self _) (by rw [duties_recv]; exact Finset.mem_singleton_self _)
    () () (amt i) rfl (amount_send A c i 0) (amount_recv A ((msg i).peer c) i 0) (oweMsgs c (T.erase i)) (oweMsgs_erase c hi) (W := W)
    (by rw [payload_send]; exact BI.Entails.refl _)
    (by rw [payload_recv]; unfold dstPts
        exact Entails.of_eq (pointsTo_congr (write_of_read (msg i).dst.view _ _ _ (msg_land i A c))))) $$ [HO HtS HtR Hd Hs]
  · isplitr; · iapply (records_inv A K c (some (false, i))); iexact HR
    isplitr; · iapply (records_inv A K ((msg i).peer c) (some (true, i))); iexact HR
    isplitl [Hs]; · iexact Hs
    isplitl [Hd]; · iexact Hd
    isplitl [HO]; · iexact HO
    isplitl [HtS]; · iexact HtS
    isplitr; · iapply (records_reached A K c (some (false, i))); iexact HR
    isplitl [HtR]; · iexact HtR
    iapply (records_reached A K ((msg i).peer c) (some (true, i))); iexact HR
  iintro ⟨Hc, HO⟩
  iapply Hk
  isplitl [HO]
  · iexists W; iexact HO
  isplitl [Hc] <;> iassumption

variable {A} in
/-- Waiting for message `i`, sent and received: the source share comes back, and the landing area with the rows in it. -/
theorem wp_wait_msg (K : Dev nD × CI → ℕ) (c : Dev nD) (i : Fin 24) {T : Finset (Fin 24)} (hi : ∀ i' ∈ T, stage i < stage i')
    {α : Type} {Q : α → sProp 𝕄} {k : PUnit → Prog (TpuEff nD τ sig (Elt F) Λ₀ .tc) α} :
    iprop(records A K ∗ owed c T ∗ flyR c i)
      ⊢ iprop(((owed c T ∗ gotR c i ∗ srcPts A c i ∗ dstPts A c i) -∗ wp frame (wpE (defs₀ (F := F)) 𝒱₀ (c : Thread nD τ) none) Set.univ (k ⟨⟩) Q)
          -∗ wp frame (wpE (defs₀ (F := F)) 𝒱₀ (c : Thread nD τ) none) Set.univ (stepProg c (.wait i) >>= k) Q) := by
  unfold owed flyR waits gotR
  show _ ⊢ iprop(_ -∗ wp frame _ _ (.op (.waitDma2 (msg i).sS (msg i).dst (msg i).src (msg i).hdst (msg i).hsrc) fun _ =>
      .op (.waitDma2 (msg i).sR (msg i).src (msg i).dst (msg i).hsrc (msg i).hdst) k) Q)
  iintro ⟨#HR, ⟨%W, HO⟩, Hc, HaS, HaR, HcR⟩ Hk
  iapply (Rounds.wp_wait_rest_token 𝒱₀ ER (Rd A) (c : Thread nD τ) none (κ := K (c, some (false, i)))
      (wpE_waitDma2_eq 𝒱₀ (c : Thread nD τ) none Set.univ) (Set.mem_univ _) () (O := oweMsgs c T) (W := W) (R := 0) (m := 0) (T := ∅)
      (by rw [Nat.zero_add, expect_send, amt_src])) $$ [Hc HO HaS]
  · isplitr; · iapply (records_inv A K c (some (false, i))); iexact HR
    isplitl [Hc]; · rw [amt_src]; iexact Hc
    isplitl [HO]; · iexact HO
    isplitr
    · iapply (mayWait_msgs c (.dma (msg i).sS) T fun i' _ => by rw [lev_send]; omega); iapply (records_lev A K); iexact HR
    iexact HaS
  iintro ⟨HO, HaS, -, Hpay⟩
  ihave Hs := (Entails.of_eq (rest_send A c i)) $$ Hpay
  iapply (Rounds.wp_wait_rest_token 𝒱₀ ER (Rd A) (c : Thread nD τ) none (κ := K (c, some (true, i)))
      (wpE_waitDma2_eq 𝒱₀ (c : Thread nD τ) none Set.univ) (Set.mem_univ _) () (O := oweMsgs c T)
      (W := insert (SemLoc.dma (msg i).sS, ()) W) (R := 0) (m := 0) (T := ∅)
      (by rw [Nat.zero_add, expect_recv])) $$ [HcR HO HaR]
  · isplitr; · iapply (records_inv A K c (some (true, i))); iexact HR
    isplitl [HcR]; · iexact HcR
    isplitl [HO]; · iexact HO
    isplitr
    · iapply (mayWait_msgs c (.dma (msg i).sR) T fun i' h => by rw [lev_recv]; exact Nat.add_lt_add_left (hi i' h) 2); iapply (records_lev A K); iexact HR
    iexact HaR
  iintro ⟨HO, HaR, -, Hpay⟩
  ihave Hd := (Entails.of_eq (rest_recv A c i)) $$ Hpay
  iapply Hk
  isplitl [HO]
  · iexists _; iexact HO
  isplitl [HaS HaR]
  · isplitl [HaS] <;> iassumption
  isplitl [Hs] <;> iassumption

/-! ## Pieces -/

/-- The value piece `p` computes on device `c`. -/
def pieceVal (c : Dev nD) (p : Fin 27) : (pc p).sr.shape.Idx → Elt F .bf16 :=
  (pc p).pay ((pc p).lv.view.readAt (Elt F) (pc p).lr.toLoadRect ((pc p).lvC A c)) (B c)

/-- Device `c`'s copy of `B`. -/
def matPts (c : Dev nD) : sProp 𝕄 := matB.view.loc (c : Thread nD τ) ↦{fullShare} B c

/-- The part of the result piece `p` goes to: holding anything … -/
def outAny (c : Dev nD) (p : Fin 27) : sProp 𝕄 :=
  iprop(∃ f, ((pc p).out c).view.loc (c : Thread nD τ) ↦[((pc p).out c).view.set]{fullShare} f)
/-- … and holding the piece. -/
def outHas (c : Dev nD) (p : Fin 27) : sProp 𝕄 :=
  iprop(∃ f, ⌜((pc p).out c).view.read (Elt F) f = pieceVal A B c p⌝ ∗ ((pc p).out c).view.loc (c : Thread nD τ) ↦[((pc p).out c).view.set]{fullShare} f)

/-- The product buffer of piece `p` and its semaphore, at rest. -/
def restP (c : Dev nD) (p : Fin 27) : sProp 𝕄 :=
  iprop(semVal ((c : Thread nD τ), .dma (pc p).sem) 0 ∗ ∃ f, (pc p).cb.view.loc (c : Thread nD τ) ↦{fullShare} f)

/-- The copy of piece `p` to the result, under way. -/
def copyP (c : Dev nD) (p : Fin 27) : sProp 𝕄 :=
  iprop(∃ fd, ∃ f, ⌜((pc p).cb.access (pc p).sr).read (Elt F) f = pieceVal A B c p⌝
    ∗ Transfers.Flight EC (c : Thread nD τ) (.dma (pc p).sem) () ((pc p).out c).view.dmaCredit
        iprop((((pc p).out c).view.loc (c : Thread nD τ) ↦[((pc p).out c).view.set]{fullShare}
              (((pc p).out c).view.write (Elt F) fd (((pc p).cb.access (pc p).sr).read (Elt F) f) Finset.univ))
          ∗ (((pc p).cb.access (pc p).sr).loc (c : Thread nD τ) ↦[((pc p).cb.access (pc p).sr).set]{fullShare} f))
    ∗ ((pc p).cb.view.loc (c : Thread nD τ) ↦[Finset.univ \ ((pc p).cb.access (pc p).sr).set]{fullShare} f))

omit [FloatOps F] in
/-- A copy to the result moves something. -/
theorem credit_pos (c : Dev nD) (p : Fin 27) : 0 < ((pc p).out c).view.dmaCredit := by
  revert p; apply cases27 <;> exact View.dmaCredit_pos _ (by decide)

omit [FloatOps F] in
/-- The zero offset. -/
theorem hz : (![0, 0] : Fin 2 → Nat) = fun _ => 0 := funext fun a => by fin_cases a <;> rfl
omit [FloatOps F] in
/-- The matrix, read whole. -/
theorem read_mat (f : matB.view.ty.Contents (Elt F)) :
    matB.view.readAt (Elt F) (Rect.unit (s := S1024x2048) ![0, 0] S1024x2048.size inb_S1024x2048_S1024x2048_0_0).toLoadRect f = f :=
  Memref.readAt_unit_zero (Elt F) cc0_stg1_0 hz _ f

omit [FloatOps F] in
/-- No cell is a copy's semaphore. -/
theorem semOf_ne_cp : ∀ (p : Fin 27) (x : CI), semOf x ≠ .dma (pc p).sem := by decide +kernel
/-- The copies' semaphores are at level zero. -/
theorem lev_cp (c : Dev nD) (p : Fin 27) : lev ((c : Thread nD τ), .dma (pc p).sem) () = 0 := by
  show levOf (ixOf (.dma (pc p).sem)) = 0
  cases h : ixOf (.dma (pc p).sem) with
  | none => rfl
  | some x => exact absurd (semOf_of_ixOf h) (semOf_ne_cp p x)

variable {A B} in
/-- Computing piece `p` and starting its copy to the result. -/
theorem wp_comp (c : Dev nD) (p : Fin 27)
    {α : Type} {Q : α → sProp 𝕄} {k : PUnit → Prog (TpuEff nD τ sig (Elt F) Λ₀ .tc) α} :
    iprop(avail A c p ∗ matPts B c ∗ restP c p ∗ outAny c p)
      ⊢ iprop(((avail A c p ∗ matPts B c ∗ copyP A B c p) -∗ wp frame (wpE (defs₀ (F := F)) 𝒱₀ (c : Thread nD τ) none) Set.univ (k ⟨⟩) Q)
          -∗ wp frame (wpE (defs₀ (F := F)) 𝒱₀ (c : Thread nD τ) none) Set.univ (stepProg c (.comp p) >>= k) Q) := by
  unfold avail matPts restP outAny
  show _ ⊢ iprop(_ -∗ wp frame _ _ (.op (.load (pc p).lv (pc p).lr.toLoadRect (pc p).hl) fun v =>
      .op (.load matB (Rect.unit (s := S1024x2048) ![0, 0] S1024x2048.size inb_S1024x2048_S1024x2048_0_0).toLoadRect (View.loadsAt_vmem h_S1024x2048)) fun b =>
      .op (.load (pc p).cb (pc p).sr.toLoadRect (pc p).hc) fun _ =>
      .op (.store (pc p).cb (pc p).sr ((pc p).pay v b) Finset.univ (pc p).hst (.inl rfl)) fun _ =>
      .op (.enqueueDma ((pc p).cb.slice (pc p).sr (pc p).hsr) (.here ((pc p).out c)) (.dma (pc p).sem) (pc p).hcw ((pc p).how c) ⟨Or.inl rfl, trivial⟩) k) Q)
  iintro ⟨Ha, Hb, ⟨Hv, ⟨%f, Hc⟩⟩, ⟨%fd, Ho⟩⟩ Hk
  iapply (wp_load_rect 𝒱₀ (c : Thread nD τ) none Set.univ (m := (pc p).lv) (r := (pc p).lr) (Finset.Subset.refl _)) $$ Ha; iintro Ha
  iapply (wp_load 𝒱₀ (c : Thread nD τ) none Set.univ (m := matB) (Finset.subset_univ _)) $$ Hb; iintro Hb
  iapply (wp_load 𝒱₀ (c : Thread nD τ) none Set.univ (m := (pc p).cb) (Finset.subset_univ _)) $$ Hc; iintro Hc
  iapply (wp_store 𝒱₀ (c : Thread nD τ) none Set.univ (m := (pc p).cb) (r := (pc p).sr) (Mk := Finset.univ) (Finset.subset_univ _)) $$ Hc; iintro Hc
  rw [read_mat]
  ihave Hc2 := (pointsTo_split_subset (Finset.subset_univ ((pc p).cb.access (pc p).sr).set)).1 $$ Hc
  icases Hc2 with ⟨Hc, Hrest⟩
  iapply (Transfers.wp_dmaLocal EC 𝒱₀ (c : Thread nD τ) none () ((pc p).out c).view.dmaCredit rfl (credit_pos c p) (Finset.Subset.refl _)) $$ [Hc Ho Hv]
  · isplitl [Hc]; · iexact Hc
    isplitl [Ho] <;> iassumption
  iintro Hf
  iapply Hk
  isplitl [Ha]; · iexact Ha
  isplitl [Hb]; · iexact Hb
  unfold copyP
  iexists fd, (((pc p).cb.access (pc p).sr).write (Elt F) f (pieceVal A B c p) Finset.univ)
  isplitr
  · ipureintro; exact View.read_write_univ _ _
  isplitl [Hf]; · iexact Hf
  iexact Hrest

variable {A B} in
/-- Waiting for the copy of piece `p` to the result. -/
theorem wp_drain (K : Dev nD × CI → ℕ) (c : Dev nD) (p : Fin 27) {T : Finset (Fin 24)}
    {α : Type} {Q : α → sProp 𝕄} {k : PUnit → Prog (TpuEff nD τ sig (Elt F) Λ₀ .tc) α} :
    iprop(records A K ∗ owed c T ∗ copyP A B c p)
      ⊢ iprop(((owed c T ∗ restP c p ∗ outHas A B c p) -∗ wp frame (wpE (defs₀ (F := F)) 𝒱₀ (c : Thread nD τ) none) Set.univ (k ⟨⟩) Q)
          -∗ wp frame (wpE (defs₀ (F := F)) 𝒱₀ (c : Thread nD τ) none) Set.univ (stepProg c (.drain p) >>= k) Q) := by
  unfold owed copyP restP outHas
  show _ ⊢ iprop(_ -∗ wp frame _ _ (.op (.waitDma2 (pc p).sem ((pc p).cb.slice (pc p).sr (pc p).hsr) ((pc p).out c) (pc p).hcw ((pc p).how c)) k) Q)
  iintro ⟨#HR, ⟨%W, HO⟩, ⟨%fd, %f, %hf, Hf, Hrest⟩⟩ Hk
  iapply (Transfers.wp_waitLocalO EC 𝒱₀ (c : Thread nD τ) none () rfl (O := oweMsgs c T) (W := W)) $$ [Hf HO]
  · isplitl [Hf]; · iexact Hf
    isplitl [HO]; · iexact HO
    iapply (mayWait_msgs c (.dma (pc p).sem) T fun i' _ => by rw [lev_cp]; omega); iapply (records_lev A K); iexact HR
  iintro ⟨⟨Ho, Hc⟩, Hv, HO⟩
  iapply Hk
  isplitl [HO]
  · iexists _; iexact HO
  isplitl [Hc Hrest Hv]
  · isplitl [Hv]; · iexact Hv
    iexists _
    iapply (pointsTo_split_subset (Finset.subset_univ ((pc p).cb.access (pc p).sr).set)).2
    isplitl [Hc] <;> iassumption
  iexists (((pc p).out c).view.write (Elt F) fd (((pc p).cb.access (pc p).sr).read (Elt F) f) Finset.univ)
  isplitr
  · ipureintro; exact (View.read_write_univ _ _).trans hf
  iexact Ho

end Cert.KernelIdeal.Gather

end
-- ==== Proof.Machine.lean ====
/- The body as a run of steps over what the device holds. -/
module

public import proofs.«01_k».proof.Proof.Steps

@[expose] public section

set_option maxRecDepth 100000

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

section Big
omit [FloatOps F]
variable {I : Type} [DecidableEq I]
/-- A conjunction, one member taken out. -/
theorem big_erase {s : Finset I} {i : I} (h : i ∈ s) {Φ : I → sProp 𝕄} : bigSep s Φ = iprop(Φ i ∗ bigSep (s.erase i) Φ) := bigSep_erase h
/-- A conjunction, one member put in. -/
theorem big_insert {s : Finset I} {i : I} (h : i ∉ s) {Φ : I → sProp 𝕄} : bigSep (insert i s) Φ = iprop(Φ i ∗ bigSep s Φ) := bigSep_insert h
/-- A conjunction over two parts without a common member. -/
theorem big_union {s t : Finset I} (h : Disjoint s t) {Φ : I → sProp 𝕄} : bigSep (s ∪ t) Φ = iprop(bigSep s Φ ∗ bigSep t Φ) := bigSep_union h
end Big

/-! ## The state the steps move -/

/-- Which messages are unsent, under way, taken in; which source shares and pieces' rows are held; which pieces of the result
are unwritten, under way, written; which product buffers are at rest. -/
structure St where
  todo : Finset (Fin 24)
  fly : Finset (Fin 24)
  got : Finset (Fin 24)
  src : Finset (Fin 24)
  avl : Finset (Fin 27)
  ot : Finset (Fin 27)
  cp : Finset (Fin 27)
  dn : Finset (Fin 27)
  idle : Finset (Fin 3)

/-- The row group of a piece. -/
def grp (p : Fin 27) : Fin 3 := ⟨p.val / 9, by omega⟩
/-- The first piece of a row group. -/
def headP (g : Fin 3) : Fin 27 := ⟨9 * g.val, by omega⟩

/-- What a step does to the state, where it may be taken. -/
def next : Step → St → Option St
  | .send i, s => if i ∈ s.todo ∧ i ∈ s.src ∧ i ∉ s.fly then
      some { s with todo := s.todo.erase i, src := s.src.erase i, fly := insert i s.fly } else none
  | .wait i, s => if i ∈ s.fly ∧ i ∉ s.got ∧ (∀ i' ∈ s.todo, stage i < stage i') ∧ i ∉ s.src ∪ cons i ∧ (∀ j ∈ s.src, j ∉ cons i) ∧ pieceOf i ∉ s.avl then
      some { s with fly := s.fly.erase i, got := insert i s.got, src := insert i (s.src ∪ cons i), avl := insert (pieceOf i) s.avl } else none
  | .comp p, s => if p ∈ s.avl ∧ grp p ∈ s.idle ∧ p ∈ s.ot ∧ p ∉ s.cp then
      some { s with idle := s.idle.erase (grp p), ot := s.ot.erase p, cp := insert p s.cp } else none
  | .drain p, s => if p ∈ s.cp ∧ grp p ∉ s.idle ∧ p ∉ s.dn then
      some { s with idle := insert (grp p) s.idle, cp := s.cp.erase p, dn := insert p s.dn } else none

/-- The steps in turn. -/
def runSt : List Step → St → Option St
  | [], s => some s
  | t :: r, s => (next t s).bind (runSt r)

def st₀ : St where
  todo := Finset.univ
  fly := ∅
  got := ∅
  src := {0, 1, 3, 8, 9, 11, 16, 17, 19}
  avl := {0, 9, 18}
  ot := Finset.univ
  cp := ∅
  dn := ∅
  idle := Finset.univ
def st₁ : St where
  todo := ∅
  fly := ∅
  got := Finset.univ
  src := Finset.univ
  avl := Finset.univ
  ot := ∅
  cp := ∅
  dn := Finset.univ
  idle := Finset.univ

/-- Every step of the body may be taken, and all messages arrive and all pieces are written. -/
theorem run_steps : runSt steps st₀ = some st₁ := by
  have h : (runSt steps st₀).elim false (fun s => decide (s.todo = ∅ ∧ s.fly = ∅ ∧ s.got = Finset.univ ∧ s.src = Finset.univ ∧ s.avl = Finset.univ
      ∧ s.ot = ∅ ∧ s.cp = ∅ ∧ s.dn = Finset.univ ∧ s.idle = Finset.univ)) = true := by decide +kernel
  cases e : runSt steps st₀ with
  | none => rw [e] at h; exact absurd h (by decide)
  | some s =>
    rw [e] at h
    obtain ⟨h1, h2, h3, h4, h5, h6, h7, h8, h9⟩ := of_decide_eq_true h
    obtain ⟨a1, a2, a3, a4, a5, a6, a7, a8, a9⟩ := s
    dsimp only at h1 h2 h3 h4 h5 h6 h7 h8 h9
    subst h1; subst h2; subst h3; subst h4; subst h5; subst h6; subst h7; subst h8; subst h9
    rfl

variable (A : Dev nD → S2048x1024.Idx → Elt F .bf16) (B : Dev nD → S1024x2048.Idx → Elt F .bf16)

/-- What device `c` holds in a state. -/
def hold (c : Dev nD) (s : St) : sProp 𝕄 :=
  iprop(owed c s.todo ∗ (bigSep s.todo fun i => todoR (F := F) c i) ∗ (bigSep s.fly fun i => flyR (F := F) c i) ∗ (bigSep s.got fun i => gotR (F := F) c i)
    ∗ (bigSep s.src fun i => srcPts A c i) ∗ (bigSep s.avl fun p => avail A c p) ∗ (bigSep s.ot fun p => outAny (F := F) c p)
    ∗ (bigSep s.cp fun p => copyP A B c p) ∗ (bigSep s.dn fun p => outHas A B c p) ∗ (bigSep s.idle fun g => restP (F := F) c (headP g)) ∗ matPts B c)

omit [FloatOps F] in
/-- The pieces of a row group share one product buffer and one semaphore. -/
theorem restP_grp (c : Dev nD) (p : Fin 27) : restP (F := F) c p = restP c (headP (grp p)) := by
  revert p; apply cases27 <;> rfl

variable {A B} in
/-- One step, from a state to the next. -/
theorem wp_step (K : Dev nD × CI → ℕ) (c : Dev nD) (t : Step) {s s' : St} (h : next t s = some s')
    {α : Type} {Q : α → sProp 𝕄} {k : PUnit → Prog (TpuEff nD τ sig (Elt F) Λ₀ .tc) α} :
    iprop(records A K ∗ hold A B c s)
      ⊢ iprop((hold A B c s' -∗ wp frame (wpE (defs₀ (F := F)) 𝒱₀ (c : Thread nD τ) none) Set.univ (k ⟨⟩) Q)
          -∗ wp frame (wpE (defs₀ (F := F)) 𝒱₀ (c : Thread nD τ) none) Set.univ (stepProg c t >>= k) Q) := by
  cases t with
  | send i =>
    simp only [next] at h
    split at h
    case isFalse => exact absurd h (by simp)
    case isTrue hc =>
    obtain ⟨h1, h2, h3⟩ := hc
    obtain rfl := Option.some.inj h
    unfold hold
    dsimp only
    rw [big_erase h1, big_erase h2, big_insert h3]
    iintro ⟨#HR, HO, ⟨Ht, HT⟩, HF, HG, ⟨Hs, HS⟩, HA, HU, HC, HD, HI, HB⟩ Hk
    iapply (wp_send_msg K c i h1) $$ [HO Ht Hs]
    · isplitr; · iexact HR
      isplitl [HO]; · iexact HO
      isplitl [Ht] <;> iassumption
    iintro ⟨HO, Hf⟩
    iapply Hk
    iframe
  | wait i =>
    simp only [next] at h
    split at h
    case isFalse => exact absurd h (by simp)
    case isTrue hc =>
    obtain ⟨h1, h2, h3, h4, h5, h6⟩ := hc
    obtain rfl := Option.some.inj h
    unfold hold
    dsimp only
    rw [big_erase h1, big_insert h2, big_insert h4, big_union (Finset.disjoint_left.mpr h5), big_insert h6]
    iintro ⟨#HR, HO, HT, ⟨Hf, HF⟩, HG, HS, HA, HU, HC, HD, HI, HB⟩ Hk
    iapply (wp_wait_msg K c i h3) $$ [HO Hf]
    · isplitr; · iexact HR
      isplitl [HO] <;> iassumption
    rw [got_split]
    iintro ⟨HO, Hg, Hs, Ha, Hc⟩
    iapply Hk
    iframe
  | comp p =>
    simp only [next] at h
    split at h
    case isFalse => exact absurd h (by simp)
    case isTrue hc =>
    obtain ⟨h1, h2, h3, h4⟩ := hc
    obtain rfl := Option.some.inj h
    unfold hold
    dsimp only
    rw [big_erase h1, big_erase h2, big_erase h3, big_insert h4, ← restP_grp]
    iintro ⟨-, HO, HT, HF, HG, HS, ⟨Ha, HA⟩, ⟨Hu, HU⟩, HC, HD, ⟨Hi, HI⟩, HB⟩ Hk
    iapply (wp_comp c p) $$ [Ha HB Hi Hu]
    · iframe
    iintro ⟨Ha, HB, Hc⟩
    iapply Hk
    iframe
  | drain p =>
    simp only [next] at h
    split at h
    case isFalse => exact absurd h (by simp)
    case isTrue hc =>
    obtain ⟨h1, h2, h3⟩ := hc
    obtain rfl := Option.some.inj h
    unfold hold
    dsimp only
    rw [big_erase h1, big_insert h2, big_insert h3, ← restP_grp]
    iintro ⟨#HR, HO, HT, HF, HG, HS, HA, HU, ⟨Hc, HC⟩, HD, HI, HB⟩ Hk
    iapply (wp_drain K c p) $$ [HO Hc]
    · isplitr; · iexact HR
      isplitl [HO] <;> iassumption
    iintro ⟨HO, Hi, Hd⟩
    iapply Hk
    iframe

variable {A B} in
/-- A run of steps. -/
theorem wp_steps (K : Dev nD × CI → ℕ) (c : Dev nD) (l : List Step) {s s' : St} (h : runSt l s = some s') {Q : PUnit → sProp 𝕄} :
    iprop(records A K ∗ hold A B c s)
      ⊢ iprop((hold A B c s' -∗ Q ⟨⟩) -∗ wp frame (wpE (defs₀ (F := F)) 𝒱₀ (c : Thread nD τ) none) Set.univ (runSteps c l) Q) := by
  induction l generalizing s with
  | nil =>
    obtain rfl := Option.some.inj h
    rw [show runSteps (F := F) c [] = .ret ⟨⟩ from rfl, wp_ret]
    iintro ⟨-, H⟩ Hk
    imodintro
    iapply Hk; iexact H
  | cons t r ih =>
    obtain ⟨s₁, h1, h2⟩ := Option.bind_eq_some_iff.mp h
    iintro ⟨#HR, H⟩ Hk
    iapply (wp_step K c t h1 (k := fun _ => runSteps c r)) $$ [H]
    · isplitr; · iexact HR
      iexact H
    iintro H
    iapply (ih h2) $$ [H]
    · isplitr; · iexact HR
      iexact H
    iexact Hk

/-! ## The body -/

/-- What a device brings to the body: its debts, its duty tokens, its places at its cells, its claims, and its buffers. -/
def start (c : Dev nD) : sProp 𝕄 :=
  iprop((∃ W, owes (c : Thread nD τ) (O₀ c) W) ∗ (bigSep Finset.univ fun d : Fin 3 => dutyTok ER (barCell (nbr d c)) 0 d)
    ∗ atPos ER (barCell c) 0 ∅ 0 ∗ cred (tallyAt (barCell c) () 3)
    ∗ (bigSep Finset.univ fun i : Fin 24 => iprop(toks (F := F) c i ∗ waits (F := F) c i)) ∗ (bigSep Finset.univ fun i : Fin 24 => dstAny (F := F) c i)
    ∗ (bigSep st₀.src fun i => srcPts A c i) ∗ (bigSep st₀.avl fun p => avail A c p) ∗ (bigSep Finset.univ fun p => outAny (F := F) c p)
    ∗ (bigSep Finset.univ fun g => restP (F := F) c (headP g)) ∗ matPts B c)

omit [FloatOps F] in
/-- A conjunction over the three. -/
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The landing areas of all the messages that come to a device, by the neighbour they come from. -/
theorem dst_by_link (c : Dev nD) : (bigSep Finset.univ fun i : Fin 24 => dstAny (F := F) c i)
    = bigSep Finset.univ fun d : Fin 3 => barPay (F := F) (nbr d c) d := by
  rw [BI.bigSep_fiberwise (Finset.univ : Finset (Fin 24)) lnk, show Finset.univ.image lnk = Finset.univ from by decide]
  refine bigSep_congr fun d _ => ?_
  unfold barPay; rw [nbr_nbr]

variable {A B} in
/-- The body, from the start to the state where everything has arrived and is written. -/
theorem wp_body (K : Dev nD × CI → ℕ) (c : Dev nD) {Q : PUnit → sProp 𝕄} :
    iprop(records A K ∗ start A B c)
      ⊢ iprop(((hold A B c st₁ ∗ atPos ER (barCell c) 1 ∅ 0) -∗ Q ⟨⟩)
          -∗ wp frame (wpE (defs₀ (F := F)) 𝒱₀ (c : Thread nD τ) none) Set.univ body Q) := by
  unfold start body
  simp only [semSignalWord, semWaitWord, Prog.lift, Prog.bind_op, Prog.bind_ret, Prog.pure_eq_ret, wp_deviceId, dev1_eq, dev2_eq, dev3_eq]
  rw [dst_by_link, bigSep_three (fun d => (dutyTok ER (barCell (nbr d c)) 0 d : sProp 𝕄)), bigSep_three (fun d => barPay (F := F) (nbr d c) d)]
  iintro ⟨#HR, ⟨%W, HO⟩, ⟨Ht0, Ht1, Ht2⟩, HaB, HcB, HT, ⟨Hp0, Hp1, Hp2⟩, HS, HA, HU, HI, HB⟩ Hk
  iapply (Rounds.wp_signal 𝒱₀ ER (Rd A) (c : Thread nD τ) none (dst := (nbr 0 c : Thread nD τ)) (κ := K (nbr 0 c, none)) (d := 0)
    (by rw [duties_bar]; exact Finset.mem_univ _) (amount_bar A (nbr 0 c) 0) () (oweMsgs c Finset.univ + oweBar c 2 + oweBar c 1) rfl) $$ [HO Ht0 Hp0]
  · isplitr; · iapply (records_inv A K (nbr 0 c) none); iexact HR
    isplitl [HO]; · iexact HO
    isplitl [Ht0]; · iexact Ht0
    isplitl [Hp0]; · rw [payload_bar]; iexact Hp0
    iapply (records_reached A K (nbr 0 c) none); iexact HR
  iintro HO
  iapply (Rounds.wp_signal 𝒱₀ ER (Rd A) (c : Thread nD τ) none (dst := (nbr 1 c : Thread nD τ)) (κ := K (nbr 1 c, none)) (d := 1)
    (by rw [duties_bar]; exact Finset.mem_univ _) (amount_bar A (nbr 1 c) 1) () (oweMsgs c Finset.univ + oweBar c 2) rfl) $$ [HO Ht1 Hp1]
  · isplitr; · iapply (records_inv A K (nbr 1 c) none); iexact HR
    isplitl [HO]; · iexact HO
    isplitl [Ht1]; · iexact Ht1
    isplitl [Hp1]; · rw [payload_bar]; iexact Hp1
    iapply (records_reached A K (nbr 1 c) none); iexact HR
  iintro HO
  iapply (Rounds.wp_signal 𝒱₀ ER (Rd A) (c : Thread nD τ) none (dst := (nbr 2 c : Thread nD τ)) (κ := K (nbr 2 c, none)) (d := 2)
    (by rw [duties_bar]; exact Finset.mem_univ _) (amount_bar A (nbr 2 c) 2) () (oweMsgs c Finset.univ) rfl) $$ [HO Ht2 Hp2]
  · isplitr; · iapply (records_inv A K (nbr 2 c) none); iexact HR
    isplitl [HO]; · iexact HO
    isplitl [Ht2]; · iexact Ht2
    isplitl [Hp2]; · rw [payload_bar]; iexact Hp2
    iapply (records_reached A K (nbr 2 c) none); iexact HR
  iintro HO
  iapply (Rounds.wp_wait_rest_token 𝒱₀ ER (Rd A) (c : Thread nD τ) none (κ := K (c, none))
      (wpE_semWait_eq 𝒱₀ (c : Thread nD τ) none Set.univ) (Set.mem_univ _) () (O := oweMsgs c Finset.univ) (W := W) (R := 0) (m := 0) (T := ∅)
      (by rw [Nat.zero_add, expect_bar]; rfl)) $$ [HcB HO HaB]
  · isplitr; · iapply (records_inv A K c none); iexact HR
    isplitl [HcB]; · iexact HcB
    isplitl [HO]; · iexact HO
    isplitr
    · iapply (mayWait_msgs c (.reg barrier0) Finset.univ fun i' _ => by rw [lev_bar]; omega); iapply (records_lev A K); iexact HR
    iexact HaB
  iintro ⟨HO, HaB, -, Hpay⟩
  ihave Hd := (Entails.of_eq (rest_bar A c)) $$ Hpay
  iapply (wp_steps (A := A) (B := B) K c steps run_steps) $$ [HO HT Hd HS HA HU HI HB]
  · isplitr; · iexact HR
    unfold hold
    dsimp only [st₀]
    simp only [bigSep_empty]
    isplitl [HO]; · unfold owed; iexists _; iexact HO
    isplitl [HT Hd]
    · unfold todoR
      simp only [bigSep_sep']
      icases HT with ⟨H1, H2⟩
      iframe
    iframe
    isplitr; · iempintro
    isplitr; · iempintro
    isplitr; · iempintro
    iempintro
  iintro H
  iapply Hk
  isplitl [H] <;> iassumption

end Cert.KernelIdeal.Gather

end
-- ==== Proof.Ghost.lean ====
/- What the launch sets up: the cells, their tokens, the claims, and how they are dealt to the devices. -/
module

public import proofs.«01_k».proof.Proof.Machine

@[expose] public section

set_option maxRecDepth 100000

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

/-! ## The semaphores of one device -/

/-- The kernel's own semaphores: the two arrays of the messages and the three of the copies. -/
def osem (k : Fin 93) : SemLoc sig := .dma ⟨k.val + 2, by have := k.isLt; show _ < 95; omega⟩
/-- The 93 semaphores of the kernel's scope are distinct, and none of them is the pipeline's. -/
theorem ownSemFacts : Pipeline.OwnSemFacts cfg0.spec osem := by decide +kernel
/-- The semaphore of the copies of a row group. -/
def copySem (g : Fin 3) : SemLoc sig := .dma (pc (headP g)).sem
/-- The three row groups copy out under distinct semaphores. -/
theorem copySem_injective : Function.Injective copySem := by decide +kernel
/-- The semaphore of a message cell. -/
def msgSem (x : Bool × Fin 24) : SemLoc sig := semOf (some x)
/-- The messages' send and receive semaphores are distinct. -/
theorem msgSem_injective : Function.Injective msgSem := fun _ _ h => Option.some.inj (semOf_injective h)

def ownSet : Finset (SemLoc sig) := Finset.univ.map ⟨osem, ownSemFacts.inj⟩
def msgSet : Finset (SemLoc sig) := Finset.univ.map ⟨msgSem, msgSem_injective⟩
def copySet : Finset (SemLoc sig) := Finset.univ.map ⟨copySem, copySem_injective⟩
/-- The own semaphores the kernel never uses. -/
def idleSet : Finset (SemLoc sig) := (ownSet \ msgSet) \ copySet

/-- A message's semaphores are among those of the kernel's scope. -/
theorem msg_own : ∀ x, msgSem x ∈ ownSet := by decide +kernel
/-- So are the copies', and no message uses them. -/
theorem copy_own : ∀ g, copySem g ∈ ownSet \ msgSet := by decide +kernel
/-- The messages' semaphores are in the kernel's scope, -/
theorem msgSet_sub : msgSet ⊆ ownSet := fun s hs => by
  obtain ⟨x, -, rfl⟩ := Finset.mem_map.mp hs; exact msg_own x
/-- and the copies' are in it beside them. -/
theorem copySet_sub : copySet ⊆ ownSet \ msgSet := fun s hs => by
  obtain ⟨x, -, rfl⟩ := Finset.mem_map.mp hs; exact copy_own x

/-- The idle semaphores at zero. -/
def idleSems (c : Dev nD) : sProp 𝕄 := bigSep idleSet fun s => semVal ((c : Thread nD τ), s) 0
def copySems (c : Dev nD) : sProp 𝕄 := bigSep Finset.univ fun g : Fin 3 => semVal ((c : Thread nD τ), copySem g) 0

/-- A conjunction, over a part and over the rest. -/
theorem big_sdiff {I : Type} [DecidableEq I] {s t : Finset I} (h : t ⊆ s) (Φ : I → sProp 𝕄) : bigSep s Φ = iprop(bigSep t Φ ∗ bigSep (s \ t) Φ) := by
  rw [← big_union Finset.disjoint_sdiff, Finset.union_sdiff_of_subset h]

/-- The scope's semaphores at zero: the messages', the copies', and the idle ones. -/
theorem ownSems0_eq (c : Dev nD) : (Pipeline.ownSems0 (Ix := Unit) (Name := ℕ) (U := UU) (Lvl := ℕ) (Val := Elt F) (τ := τ) osem c : sProp 𝕄)
    = iprop((bigSep Finset.univ fun x : Bool × Fin 24 => semVal (cell c (some x)) 0) ∗ copySems c ∗ idleSems c) := by
  have h1 : (Pipeline.ownSems0 (Ix := Unit) (Name := ℕ) (U := UU) (Lvl := ℕ) (Val := Elt F) (τ := τ) osem c : sProp 𝕄)
      = bigSep ownSet fun s => semVal ((c : Thread nD τ), s) 0 := by
    unfold ownSet; rw [bigSep_map]; rfl
  rw [h1, big_sdiff msgSet_sub, big_sdiff copySet_sub]
  unfold msgSet copySet copySems idleSems idleSet
  rw [bigSep_map, bigSep_map]
  rfl

/-- Outside the scope there is the barrier's semaphore alone. -/
theorem unscopedSems0_eq (c : Dev nD) : (unscopedSems0 c : sProp 𝕄) = semVal (barCell c) 0 := by
  unfold unscopedSems0; rw [bigSep_eq_bigSepL_of_eq [SemLoc.reg barrier0] (by decide +kernel) (by decide +kernel)]; rfl

/-- A conjunction over a device's cells: the barrier's, and the messages'. -/
theorem big_CI (Φ : CI → sProp 𝕄) : bigSep Finset.univ Φ = iprop(Φ none ∗ bigSep Finset.univ fun x : Bool × Fin 24 => Φ (some x)) := by
  rw [big_erase (Finset.mem_univ none), show (Finset.univ : Finset CI).erase none = Finset.univ.map Function.Embedding.some from by decide +kernel, bigSep_map]
  rfl

/-- A conjunction over the messages' cells: the send cells, and the receive cells. -/
theorem big_dir (Φ : Bool × Fin 24 → sProp 𝕄) : bigSep Finset.univ Φ
    = iprop((bigSep Finset.univ fun i => Φ (false, i)) ∗ bigSep Finset.univ fun i => Φ (true, i)) := by
  rw [bigSep_univ_prod, bigSep_univ_eq_bigSepL [false, true] (by decide) (by decide)]; rfl

/-- A conjunction over a device's cells: the barrier's, the send cells, the receive cells. -/
theorem big_cells (c : Dev nD) (Φ : GSem nD τ sig → sProp 𝕄) : (bigSep Finset.univ fun x : CI => Φ (cell c x))
    = iprop(Φ (barCell c) ∗ (bigSep Finset.univ fun i => Φ (sendCell c i)) ∗ bigSep Finset.univ fun i => Φ (recvCell c i)) := by
  rw [big_CI, big_dir]; rfl

/-! ## The launch element -/

def ringCells : Finset (GSem nD τ sig) := Finset.univ.map ⟨fun x : Dev nD × CI => cell x.1 x.2, cell_injective⟩

def barTok (x : Dev nD × Fin 3) : GSem nD τ sig × ℕ × Fin 3 := (barCell x.1, 0, x.2)
/-- The barrier's tokens are distinct, -/
theorem barTok_injective : Function.Injective barTok := by
  rintro ⟨c, d⟩ ⟨c', d'⟩ h
  have h1 : c = c' := congrArg (fun x : GSem nD τ sig × ℕ × Fin 3 => x.1.1.1) h
  have h2 : d = d' := congrArg (fun x : GSem nD τ sig × ℕ × Fin 3 => x.2.2) h
  rw [h1, h2]
def msgTok (x : Dev nD × (Bool × Fin 24)) : GSem nD τ sig × ℕ × Fin 3 := (cell x.1 (some x.2), 0, 0)
/-- the messages' tokens are distinct, -/
theorem msgTok_injective : Function.Injective msgTok := by
  rintro ⟨c, y⟩ ⟨c', y'⟩ h
  have h1 := cell_injective (a₁ := (c, some y)) (a₂ := (c', some y')) (congrArg (fun x : GSem nD τ sig × ℕ × Fin 3 => x.1) h)
  have h2 : c = c' := congrArg Prod.fst h1
  have h3 : y = y' := Option.some.inj (congrArg Prod.snd h1)
  rw [h2, h3]
def barToks : Finset (GSem nD τ sig × ℕ × Fin 3) := Finset.univ.map ⟨barTok, barTok_injective⟩
def msgToks : Finset (GSem nD τ sig × ℕ × Fin 3) := Finset.univ.map ⟨msgTok, msgTok_injective⟩
/-- and none of the one kind is of the other. -/
theorem toks_disjoint : Disjoint barToks msgToks := by
  refine Finset.disjoint_left.mpr fun t h1 h2 => ?_
  obtain ⟨⟨c, d⟩, -, rfl⟩ := Finset.mem_map.mp h1
  obtain ⟨⟨c', y⟩, -, h⟩ := Finset.mem_map.mp h2
  have h3 := cell_injective (a₁ := (c', some y)) (a₂ := (c, none)) (congrArg (fun x : GSem nD τ sig × ℕ × Fin 3 => x.1) h)
  exact absurd (congrArg Prod.snd h3) (by simp)
def ringToks : Finset (GSem nD τ sig × ℕ × Fin 3) := barToks ∪ msgToks

def u₀ : UU := (initOf (Pipeline.cells cfgs cellOf_inj) (Pipeline.launchToks cfgs cellOf_inj), (initOf ringCells ringToks, 1))

/-- The launch's ghost state, in two: the pipeline's and the exchange's. -/
theorem own_u₀ : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

variable (A : Dev nD → S2048x1024.Idx → Elt F .bf16)

/-- The tokens of device `c`'s own cells, as minted. -/
def minted (c : Dev nD) : sProp 𝕄 :=
  iprop((bigSep Finset.univ fun d : Fin 3 => dutyTok ER (barCell c) 0 d) ∗ (bigSep Finset.univ fun i => dutyTok ER (sendCell c i) 0 0)
    ∗ bigSep Finset.univ fun i => dutyTok ER (recvCell c i) 0 0)

/-- What the launch element deals device `c`. -/
def G (c : Dev nD) : sProp 𝕄 :=
  iprop((bigSep Finset.univ fun x : CI => roundState ER (Rd A) (cell c x) 0) ∗ (bigSep Finset.univ fun x : CI => atPos ER (cell c x) 0 ∅ 0)
    ∗ (bigSep Finset.univ fun x : CI => reached ER (cell c x) 0) ∗ minted c)

/-- The exchange's ghost state gives every device its cells' positions, claims and tokens. -/
theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun x : CI => Φ (cell c x) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [big_union toks_disjoint]
    unfold barToks msgToks minted
    rw [bigSep_map, bigSep_map, bigSep_univ_prod, bigSep_univ_prod, ← bigSep_sep']
    exact bigSep_congr fun c _ => by rw [big_dir]; rfl
  iintro HX
  imod (Rounds.fund ER (Rd A) ringCells ringToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

/-! ## Opening the cells and dealing the tokens -/

/-- Every cell's invariant and that it has been reached. -/
def opened (K : Dev nD × CI → ℕ) : sProp 𝕄 :=
  iprop((bigSep Finset.univ fun x : Dev nD × CI => cellInv ER (Rd A) (K x) (cell x.1 x.2))
    ∗ bigSep Finset.univ fun x : Dev nD × CI => reached ER (cell x.1 x.2) 0)
instance opened_persistent (K : Dev nD × CI → ℕ) : BI.Persistent (opened A K) := by unfold opened; infer_instance

/-- The tokens of the duties device `c` carries out. -/
def dealt (c : Dev nD) : sProp 𝕄 :=
  iprop((bigSep Finset.univ fun d : Fin 3 => dutyTok ER (barCell (nbr d c)) 0 d) ∗ (bigSep Finset.univ fun i => dutyTok ER (sendCell c i) 0 0)
    ∗ bigSep Finset.univ fun i => dutyTok ER (recvCell ((msg i).peer c) i) 0 0)

/-- The semaphores that are no cell. -/
def spare (c : Dev nD) : sProp 𝕄 := iprop(copySems c ∗ idleSems c)

/-- What the opening makes of it. -/
def G' (c : Dev nD) : sProp 𝕄 :=
  iprop(∃ K, opened A K ∗ (bigSep Finset.univ fun x : CI => atPos ER (cell c x) 0 ∅ 0) ∗ dealt c ∗ spare c)

/-- With its semaphores at zero a device opens its cells. -/
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun x : CI => iprop(∃ κ : ℕ, cellInv ER (Rd A) κ (cell c x)))
          ∗ (bigSep Finset.univ fun x : CI => atPos ER (cell c x) 0 ∅ 0) ∗ (bigSep Finset.univ fun x : CI => reached ER (cell c x) 0) ∗ minted c ∗ spare c) := by
  unfold G spare
  rw [ownSems0_eq, unscopedSems0_eq]
  iintro ⟨⟨Hm, Hcp, Hid⟩, Hb, Hst, Hat, Hr, Htok⟩
  ihave Hv := (Entails.of_eq (big_CI (F := F) fun x => semVal (cell c x) 0).symm) $$ [Hm Hb]
  · isplitl [Hb]; · iexact Hb
    iexact Hm
  imod (show iprop((bigSep Finset.univ fun x : CI => semVal (cell c x) 0) ∗ bigSep Finset.univ fun x : CI => roundState ER (Rd A) (cell c x) 0)
      ⊢ (|={Set.univ}=> bigSep Finset.univ fun x : CI => iprop(∃ κ : ℕ, cellInv ER (Rd A) κ (cell c x)) : sProp 𝕄) from by
        rw [← bigSep_sep']
        exact (bigSep_mono fun x _ => (Rounds.body_intro ER (Rd A) (cell c x)).trans inv_alloc).trans (bigSep_fupd _ _)) $$ [Hv Hst] with Hinv
  · isplitl [Hv] <;> iassumption
  imodintro
  iframe

def nbrEquiv (d : Fin 3) : Dev nD ≃ Dev nD := ⟨nbr d, nbr d, nbr_nbr d, nbr_nbr d⟩
def peerEquiv (i : Fin 24) : Dev nD ≃ Dev nD := ⟨(msg i).peer, (msg i).peer, peer_peer i, peer_peer i⟩

/-- Each token goes to the device that raises its cell. -/
theorem deal : (bigSep Finset.univ fun c : Dev nD => (minted c : sProp 𝕄)) ⊢ bigSep Finset.univ fun c : Dev nD => dealt c := by
  have e1 : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (nbr d c)) 0 d := by
    rw [BI.bigSep_univ_comm, BI.bigSep_univ_comm (fun (c : Dev nD) (d : Fin 3) => (dutyTok ER (barCell (nbr d c)) 0 d : sProp 𝕄))]
    exact bigSep_congr fun d _ => bigSep_univ_equiv (nbrEquiv d) (fun c : Dev nD => (dutyTok ER (barCell c) 0 d : sProp 𝕄))
  have e2 : (bigSep Finset.univ fun c : Dev nD => bigSep Finset.univ fun i : Fin 24 => (dutyTok ER (recvCell c i) 0 0 : sProp 𝕄))
      = bigSep Finset.univ fun c : Dev nD => bigSep Finset.univ fun i : Fin 24 => dutyTok ER (recvCell ((msg i).peer c) i) 0 0 := by
    rw [BI.bigSep_univ_comm, BI.bigSep_univ_comm (fun (c : Dev nD) (i : Fin 24) => (dutyTok ER (recvCell ((msg i).peer c) i) 0 0 : sProp 𝕄))]
    exact bigSep_congr fun i _ => bigSep_univ_equiv (peerEquiv i) (fun c : Dev nD => (dutyTok ER (recvCell c i) 0 0 : sProp 𝕄))
  unfold minted dealt
  rw [bigSep_sep', bigSep_sep', bigSep_sep', bigSep_sep', e1, e2]

/-- What may be kept is at hand for every member of a conjunction. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What each device opened, gathered: records that all share, and what each keeps. -/
theorem regroup :
    (bigSep Finset.univ fun c : Dev nD => iprop((bigSep Finset.univ fun x : CI => iprop(∃ κ : ℕ, cellInv ER (Rd A) κ (cell c x)))
          ∗ (bigSep Finset.univ fun x : CI => atPos ER (cell c x) 0 ∅ 0) ∗ (bigSep Finset.univ fun x : CI => reached ER (cell c x) 0) ∗ minted c ∗ spare c) : sProp 𝕄)
      ⊢ bigSep Finset.univ (G' A) := by
  rw [bigSep_sep', bigSep_sep', bigSep_sep', bigSep_sep', ← bigSep_univ_prod (fun x : Dev nD × CI => iprop(∃ κ : ℕ, cellInv ER (Rd A) κ (cell x.1 x.2))),
    ← bigSep_univ_prod (fun x : Dev nD × CI => (reached ER (cell x.1 x.2) 0 : sProp 𝕄))]
  iintro ⟨HI, Hat, #HR, Htok, Hsp⟩
  ihave HK := (BI.bigSep_exists_pi Finset.univ (fun (x : Dev nD × CI) (κ : ℕ) => (cellInv ER (Rd A) κ (cell x.1 x.2) : sProp 𝕄))) $$ HI
  icases HK with ⟨%K, #HI⟩
  ihave Htk := (deal (F := F)) $$ Htok
  iapply (with_persistent (R := opened A K)
    (Φ := fun c => iprop((bigSep Finset.univ fun x : CI => atPos ER (cell c x) 0 ∅ 0) ∗ dealt c ∗ spare c)) fun c _ => by
      unfold G'
      iintro ⟨#H, H2⟩
      iexists K
      isplitr; · iexact H
      iexact H2)
  isplitr
  · unfold opened
    isplitr
    · iexact HI
    iexact HR
  rw [bigSep_sep', bigSep_sep']
  iframe

/-- Every device's own and barrier semaphores at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch claims -/

/-- Two cells are one just if they are the same cell of the same device. -/
theorem cell_eq_iff {a b : Dev nD} {x y : CI} : cell a x = cell b y ↔ a = b ∧ x = y :=
  ⟨fun h => by have := cell_injective (a₁ := (a, x)) (a₂ := (b, y)) h; exact ⟨congrArg Prod.fst this, congrArg Prod.snd this⟩, fun ⟨h1, h2⟩ => by rw [h1, h2]⟩

/-- A barrier signal is owed to its neighbour's barrier cell, and to no other. -/
theorem oweBar_at (d : Dev nD) (e : Fin 3) (c : Dev nD) (x : CI) : oweBar d e (cell c x) () = if d = nbr e c ∧ x = none then 1 else 0 := by
  unfold oweBar
  rw [tallyAt_apply]
  refine if_congr ?_ rfl rfl
  constructor
  · rintro ⟨h, -⟩
    obtain ⟨h1, h2⟩ := cell_eq_iff.mp (show cell c x = cell (nbr e d) none from h)
    exact ⟨by rw [h1, nbr_nbr], h2⟩
  · rintro ⟨rfl, rfl⟩
    exact ⟨by rw [nbr_nbr]; rfl, rfl⟩

/-- What a device owes a cell for its messages: the amount of each message received there. -/
theorem oweMsgs_at (d : Dev nD) (c : Dev nD) (x : CI) : oweMsgs d Finset.univ (cell c x) ()
    = ∑ i : Fin 24, if d = (msg i).peer c ∧ x = some (true, i) then amt i else 0 := by
  unfold oweMsgs
  rw [Finset.sum_apply, Finsupp.finset_sum_apply]
  refine Finset.sum_congr rfl fun i _ => ?_
  rw [tallyAt_apply]
  refine if_congr ?_ rfl rfl
  constructor
  · rintro ⟨h, -⟩
    obtain ⟨h1, h2⟩ := cell_eq_iff.mp (show cell c x = cell ((msg i).peer d) (some (true, i)) from h)
    exact ⟨by rw [h1, peer_peer], h2⟩
  · rintro ⟨rfl, rfl⟩
    exact ⟨by rw [peer_peer]; rfl, rfl⟩

/-- What a device owes a cell at the launch: for its messages, and for its three signals. -/
theorem O₀_at (d c : Dev nD) (x : CI) : O₀ d (cell c x) () = oweMsgs d Finset.univ (cell c x) () + oweBar d 2 (cell c x) () + oweBar d 1 (cell c x) () + oweBar d 0 (cell c x) () := rfl

/-- The devices together owe each barrier cell three, -/
theorem sum_owed_bar (c : Dev nD) : ∑ d : Dev nD, O₀ d (barCell c) () = 3 := by
  have h (e : Fin 3) : ∑ d : Dev nD, oweBar d e (cell c none) () = 1 := by
    simp only [oweBar_at, and_true]
    rw [Finset.sum_ite_eq' Finset.univ (nbr e c) fun _ => 1, if_pos (Finset.mem_univ _)]
  show ∑ d : Dev nD, O₀ d (cell c none) () = 3
  rw [Finset.sum_congr rfl fun d _ => O₀_at d c none, Finset.sum_add_distrib, Finset.sum_add_distrib, Finset.sum_add_distrib, h, h, h]
  simp only [oweMsgs_at, reduceCtorEq, and_false, if_false, Finset.sum_const_zero]

/-- and each receive cell its message's amount. -/
theorem sum_owed_recv (c : Dev nD) (i : Fin 24) : ∑ d : Dev nD, O₀ d (recvCell c i) () = amt i := by
  show ∑ d : Dev nD, O₀ d (cell c (some (true, i))) () = amt i
  have h (j : Fin 24) (d : Dev nD) : (if d = (msg j).peer c ∧ some (true, i) = some (true, j) then amt j else 0) = if i = j then (if d = (msg j).peer c then amt j else 0) else 0 := by
    by_cases e : i = j
    · subst e; simp
    · have e' : ¬ some (true, i) = some (true, j) := fun h => e (congrArg Prod.snd (Option.some.inj h))
      rw [if_neg e, if_neg fun h => e' h.2]
  simp only [O₀_at, oweBar_at, oweMsgs_at, reduceCtorEq, and_false, if_false, Nat.add_zero, h]
  rw [Finset.sum_comm, Finset.sum_eq_single i (fun j _ hj => by simp only [if_neg (Ne.symm hj), Finset.sum_const_zero]) (fun h => absurd (Finset.mem_univ _) h)]
  simp only [if_true]
  rw [Finset.sum_ite_eq' Finset.univ ((msg i).peer c) fun _ => amt i, if_pos (Finset.mem_univ _)]

/-- So at the launch a barrier cell is credited three, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, sum_owed_bar]
/-- and a receive cell its message's amount. -/
theorem launch_recv (c : Dev nD) (i : Fin 24) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, sum_owed_recv]

def recvSet : Finset (SemLoc sig) := Finset.univ.map ⟨fun i : Fin 24 => semOf (some (true, i)), fun i j h => congrArg Prod.snd (Option.some.inj (semOf_injective h))⟩
/-- The barrier's semaphore is no receive semaphore. -/
theorem bar_notMem_recvSet : SemLoc.reg barrier0 ∉ recvSet := by decide +kernel

/-- The claims the launch hands device `c`: three units of its barrier, and the bytes of every message to it. -/
theorem creds (c : Dev nD) : (Pipeline.launchCred O₀ c : sProp 𝕄)
    ⊢ iprop(cred (tallyAt (barCell c) () 3) ∗ bigSep Finset.univ fun i => cred (tallyAt (recvCell c i) () (amt i))) := by
  unfold Pipeline.launchCred
  rw [big_erase (Finset.mem_univ (SemLoc.reg barrier0)), launch_bar,
    big_sdiff (F := F) (show recvSet ⊆ Finset.univ.erase (SemLoc.reg barrier0) from fun s hs => Finset.mem_erase.mpr ⟨fun e => bar_notMem_recvSet (e ▸ hs), Finset.mem_univ _⟩)]
  unfold recvSet
  rw [bigSep_map, ← bigSep_congr fun i _ => congrArg cred (launch_recv c i)]
  iintro ⟨H1, H2, -⟩
  isplitl [H1]; · iexact H1
  iexact H2

end Cert.KernelIdeal.Gather

end
-- ==== Proof.Buffers.lean ====
/- The buffers a device brings, divided for the body, and put together again after it. -/
module

public import proofs.«01_k».proof.Proof.Machine

@[expose] public section

set_option maxRecDepth 100000

noncomputable section

namespace Cert.KernelIdeal.Gather

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

/-! ## Families of disjoint parts -/

/-- A buffer divided into the disjoint parts of a family and what is left over. -/
theorem split_family {ℓ : Loc nD τ sig} {T : Type} [Fintype T] (S : T → Finset (Idx ℓ)) (hd : ∀ t t', t ≠ t' → Disjoint (S t) (S t')) (f : Buf (Elt F) ℓ) :
    (ℓ ↦{fullShare} f : sProp 𝕄) = iprop((bigSep Finset.univ fun t => ℓ ↦[S t]{fullShare} f) ∗ ℓ ↦[Finset.univ \ Finset.univ.biUnion S]{fullShare} f) := by
  rw [← pointsTo_biUnion Finset.univ S fun t _ t' _ h => hd t t' h]
  exact BI.Entails.antisymm (pointsTo_split_subset (Finset.subset_univ _)).1 (pointsTo_split_subset (Finset.subset_univ _)).2

/-- The parts at one array's contents and the rest at another's are the buffer at some contents. -/
theorem join_family {ℓ : Loc nD τ sig} {T : Type} [Fintype T] (S : T → Finset (Idx ℓ)) (hd : ∀ t t', t ≠ t' → Disjoint (S t) (S t')) (f g : Buf (Elt F) ℓ) :
    iprop((bigSep Finset.univ fun t => ℓ ↦[S t]{fullShare} f) ∗ ℓ ↦[Finset.univ \ Finset.univ.biUnion S]{fullShare} g) ⊢ (∃ h, ℓ ↦{fullShare} h : sProp 𝕄) := by
  rw [← pointsTo_biUnion Finset.univ S fun t _ t' _ h => hd t t' h]
  iintro H
  iexists _
  iapply (pointsTo_join_subset (Finset.subset_univ (Finset.univ.biUnion S))); iexact H

/-- A conjunction over a disjoint union is the conjunction over its parts. -/
theorem bigSep_biUnion_eq {I J : Type} [DecidableEq I] [DecidableEq J] (s : Finset J) (t : J → Finset I)
    (hd : ∀ a ∈ s, ∀ b ∈ s, a ≠ b → Disjoint (t a) (t b)) (Φ : I → sProp 𝕄) :
    bigSep (s.biUnion t) Φ = bigSep s fun j => bigSep (t j) Φ := by
  induction s using Finset.induction_on with
  | empty => rw [Finset.biUnion_empty, bigSep_empty, bigSep_empty]
  | insert a s ha ih =>
    rw [Finset.biUnion_insert, bigSep_insert ha, bigSep_union, ih fun x hx y hy => hd x (Finset.mem_insert_of_mem hx) y (Finset.mem_insert_of_mem hy)]
    exact (Finset.disjoint_biUnion_right _ _ _).mpr fun b hb => hd a (Finset.mem_insert_self _ _) b (Finset.mem_insert_of_mem hb) fun e => ha (e ▸ hb)

/-- Rows `lo, …, lo + n - 1` of a matrix. -/
def rowsOf {r w : ℕ} (lo n : ℕ) : Finset (⟨2, ![r, w]⟩ : Shape).Idx := Finset.univ.filter fun x => lo ≤ (x 0).val ∧ (x 0).val < lo + n
/-- An index is among the `n` rows from `lo` on just if its row is. -/
theorem mem_rowsOf {r w lo n : ℕ} (x : (⟨2, ![r, w]⟩ : Shape).Idx) : x ∈ rowsOf lo n ↔ lo ≤ (x 0).val ∧ (x 0).val < lo + n := by
  unfold rowsOf; rw [Finset.mem_filter]; exact and_iff_right (Finset.mem_univ _)
/-- Ranges of rows apart from one another share no index. -/
theorem rowsOf_disjoint {r w lo n lo' n' : ℕ} (h : lo + n ≤ lo' ∨ lo' + n' ≤ lo) : Disjoint (rowsOf (r := r) (w := w) lo n) (rowsOf lo' n') :=
  Finset.disjoint_left.mpr fun x hx hx' => by
    have h1 := (mem_rowsOf x).mp hx; have h2 := (mem_rowsOf x).mp hx'; omega
/-- A rectangle of whole rows covers just those rows. -/
theorem rect_rows {r w n : ℕ} (off : Fin 2 → ℕ) (h1 : off 1 = 0) (inb) :
    (Rect.unit (s := ⟨2, ![r, w]⟩) off (⟨2, ![n, w]⟩ : Shape).size inb).set = rowsOf (off 0) n := by
  ext x
  refine Rect.mem_set_unit.trans (Iff.trans ?_ (mem_rowsOf x).symm)
  constructor
  · intro h; exact h 0
  · intro h a
    match a with
    | ⟨0, _⟩ => exact h
    | ⟨1, _⟩ => exact ⟨by show off 1 ≤ _; omega, by show (x 1).val < off 1 + w; have : (x 1).val < w := (x 1).isLt; omega⟩

/-! ## A device's own block -/

/-- A view of a device's own rows covers just those rows. -/
theorem own_set {n : ℕ} (lo : ℕ) (inb : ∀ a, (![lo, 0] : Fin 2 → ℕ) a + (⟨2, ![n, 1024]⟩ : Shape).size a ≤ S2048x1024.size a) (hr) :
    (blkA.slice (Rect.unit (s := S2048x1024) ![lo, 0] (⟨2, ![n, 1024]⟩ : Shape).size inb) hr).view.set = (rowsOf lo n : Finset S2048x1024.Idx) :=
  (View.set_slice_whole _ _).trans (rect_rows _ rfl _)

/-- A device's block of `A` is its three row groups. -/
theorem own_parts (c : Dev nD) (f : S2048x1024.Idx → Elt F .bf16) :
    (((c : Thread nD τ).loc cc0_stg0_0) ↦{fullShare} f : sProp 𝕄)
      = iprop((own0.view.loc (c : Thread nD τ) ↦[own0.view.set]{fullShare} f) ∗ (own1.view.loc (c : Thread nD τ) ↦[own1.view.set]{fullShare} f)
          ∗ own2.view.loc (c : Thread nD τ) ↦[own2.view.set]{fullShare} f) := by
  have h0 : own0.view.set = (rowsOf 0 688 : Finset S2048x1024.Idx) := own_set 0 _ _
  have h1 : own1.view.set = (rowsOf 688 688 : Finset S2048x1024.Idx) := own_set 688 _ _
  have h2 : own2.view.set = (rowsOf 1376 672 : Finset S2048x1024.Idx) := own_set 1376 _ _
  have hu : (Finset.univ : Finset S2048x1024.Idx) = rowsOf 0 688 ∪ (rowsOf 688 688 ∪ rowsOf 1376 672) := by
    ext x
    simp only [Finset.mem_union, Finset.mem_univ, true_iff]
    rw [mem_rowsOf, mem_rowsOf, mem_rowsOf]
    have : (x 0).val < 2048 := (x 0).isLt
    omega
  have d1 : Disjoint (rowsOf 0 688 : Finset S2048x1024.Idx) (rowsOf 688 688 ∪ rowsOf 1376 672) :=
    (Finset.disjoint_union_right).mpr ⟨rowsOf_disjoint (by omega), rowsOf_disjoint (by omega)⟩
  have d2 : Disjoint (rowsOf 688 688 : Finset S2048x1024.Idx) (rowsOf 1376 672) := rowsOf_disjoint (by omega)
  have e : ((((c : Thread nD τ).loc cc0_stg0_0) ↦[(Finset.univ : Finset S2048x1024.Idx)]{fullShare} f) : sProp 𝕄)
      = iprop((((c : Thread nD τ).loc cc0_stg0_0) ↦[(rowsOf 0 688 : Finset S2048x1024.Idx)]{fullShare} f)
        ∗ (((c : Thread nD τ).loc cc0_stg0_0) ↦[(rowsOf 688 688 : Finset S2048x1024.Idx)]{fullShare} f)
        ∗ (((c : Thread nD τ).loc cc0_stg0_0) ↦[(rowsOf 1376 672 : Finset S2048x1024.Idx)]{fullShare} f)) := by
    rw [hu, set_split d1, set_split d2]
  rw [h0, h1, h2]
  exact e

/-! ## A gather buffer -/

/-- Message `8 * g + k`. -/
def msgOf (g : Fin 3) : Fin 8 ↪ Fin 24 := ⟨fun k => ⟨8 * g.val + k.val, by omega⟩, fun k k' h => Fin.ext (by have := congrArg Fin.val h; dsimp only at this; omega)⟩
/-- The 24 messages, eight for each row group. -/
theorem bigSep_msgs (Φ : Fin 24 → sProp 𝕄) :
    bigSep Finset.univ Φ = iprop((bigSep Finset.univ fun k => Φ (msgOf 0 k)) ∗ (bigSep Finset.univ fun k => Φ (msgOf 1 k)) ∗ bigSep Finset.univ fun k => Φ (msgOf 2 k)) := by
  rw [BI.bigSep_fiberwise (Finset.univ : Finset (Fin 24)) (fun i => (⟨i.val / 8, by omega⟩ : Fin 3)),
    show Finset.univ.image (fun i : Fin 24 => (⟨i.val / 8, by omega⟩ : Fin 3)) = Finset.univ from by decide,
    bigSep_congr (s := Finset.univ) (fun (g : Fin 3) _ => show bigSep (Finset.univ.filter fun i : Fin 24 => (⟨i.val / 8, by omega⟩ : Fin 3) = g) Φ = bigSep Finset.univ fun k => Φ (msgOf g k) from by
      rw [show (Finset.univ.filter fun i : Fin 24 => (⟨i.val / 8, by omega⟩ : Fin 3) = g) = Finset.univ.map (msgOf g) from by revert g; decide, bigSep_map])]
  exact bigSep_univ_eq_bigSepL [0, 1, 2] (by decide) (by decide) _

/-- A statement about every one of the 8, from each. -/
theorem cases8 {P : Fin 8 → Prop} (h0 : P 0) (h1 : P 1) (h2 : P 2) (h3 : P 3) (h4 : P 4) (h5 : P 5) (h6 : P 6) (h7 : P 7) : ∀ k, P k := fun k =>
  match k with
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7

/-- The slot where each of the eight messages of a group lands, the first of its rows there, and how many, in slots of `2 * h` rows. -/
def slotAt : Fin 8 → ℕ := ![1, 2, 3, 4, 5, 6, 7, 7]
def fromAt (h : ℕ) : Fin 8 → ℕ := ![0, 0, 0, 0, 0, 0, 0, h]
def lenAt (h : ℕ) : Fin 8 → ℕ := ![2 * h, 2 * h, 2 * h, 2 * h, 2 * h, 2 * h, h, h]
/-- Only the two halves of the last slot lie in one slot. -/
theorem slotAt_eq : ∀ k k', slotAt k = slotAt k' → k = k' ∨ (k = 6 ∧ k' = 7) ∨ (k = 7 ∧ k' = 6) := by decide
/-- Landing areas in slots and row ranges as listed share no index. -/
theorem land_disjoint (n h : ℕ) (S : Fin 8 → Finset (⟨3, ![8, n, 1024]⟩ : Shape).Idx)
    (hS : ∀ k x, x ∈ S k → (x 0).val = slotAt k ∧ fromAt h k ≤ (x 1).val ∧ (x 1).val < fromAt h k + lenAt h k) :
    ∀ k k', k ≠ k' → Disjoint (S k) (S k') := by
  intro k k' hk
  refine Finset.disjoint_left.mpr fun x hx hx' => ?_
  obtain ⟨a, a1, a2⟩ := hS k x hx
  obtain ⟨b, b1, b2⟩ := hS k' x hx'
  rcases slotAt_eq k k' (a.symm.trans b) with e | ⟨e, e'⟩ | ⟨e, e'⟩
  · exact hk e
  · subst e; subst e'
    have a2' : (x 1).val < 0 + h := a2
    have b1' : h ≤ (x 1).val := b1
    omega
  · subst e; subst e'
    have b2' : (x 1).val < 0 + h := b2
    have a1' : h ≤ (x 1).val := a1
    omega

/-- A view with known contents has some contents. -/
theorem any_intro (c : Dev nD) {s : Shape} (v : Memref sig .tc .vmem s .bf16) (f : Buf (Elt F) (v.view.loc (c : Thread nD τ))) :
    (v.view.loc (c : Thread nD τ) ↦[v.view.set]{fullShare} f : sProp 𝕄) ⊢ iprop(∃ f, v.view.loc (c : Thread nD τ) ↦[v.view.set]{fullShare} f) := by
  iintro H; iexists f; iexact H

/-- Where the messages of group 0 land. -/
def land0 : Fin 8 → Finset S8x688x1024.Idx := ![slot0_1.view.set, slot0_2.view.set, slot0_3.view.set, slot0_4.view.set, slot0_5.view.set, slot0_6.view.set, half0_7_0.view.set, half0_7_1.view.set]
/-- Where the landing areas of row group 0 lie: slot and rows. -/
theorem land0_spec : ∀ k x, x ∈ land0 k → (x 0).val = slotAt k ∧ fromAt 344 k ≤ (x 1).val ∧ (x 1).val < fromAt 344 k + lenAt 344 k := by
  refine cases8 ?_ ?_ ?_ ?_ ?_ ?_ ?_ ?_
  · intro x hx; obtain ⟨y, rfl, h⟩ := (mem_slot gat0 1 0 inb_S8x688x1024_S1x688x1024_1_0_0 (fun _ => rfl) squeezes_S1x688x1024_S688x1024 x).mp hx; exact h
  · intro x hx; obtain ⟨y, rfl, h⟩ := (mem_slot gat0 2 0 inb_S8x688x1024_S1x688x1024_2_0_0 (fun _ => rfl) squeezes_S1x688x1024_S688x1024 x).mp hx; exact h
  · intro x hx; obtain ⟨y, rfl, h⟩ := (mem_slot gat0 3 0 inb_S8x688x1024_S1x688x1024_3_0_0 (fun _ => rfl) squeezes_S1x688x1024_S688x1024 x).mp hx; exact h
  · intro x hx; obtain ⟨y, rfl, h⟩ := (mem_slot gat0 4 0 inb_S8x688x1024_S1x688x1024_4_0_0 (fun _ => rfl) squeezes_S1x688x1024_S688x1024 x).mp hx; exact h
  · intro x hx; obtain ⟨y, rfl, h⟩ := (mem_slot gat0 5 0 inb_S8x688x1024_S1x688x1024_5_0_0 (fun _ => rfl) squeezes_S1x688x1024_S688x1024 x).mp hx; exact h
  · intro x hx; obtain ⟨y, rfl, h⟩ := (mem_slot gat0 6 0 inb_S8x688x1024_S1x688x1024_6_0_0 (fun _ => rfl) squeezes_S1x688x1024_S688x1024 x).mp hx; exact h
  · intro x hx; obtain ⟨y, rfl, h⟩ := (mem_slot gat0 7 0 inb_S8x688x1024_S1x344x1024_7_0_0 (fun _ => rfl) squeezes_S1x344x1024_S344x1024 x).mp hx; exact h
  · intro x hx; obtain ⟨y, rfl, h⟩ := (mem_slot gat0 7 344 inb_S8x688x1024_S1x344x1024_7_344_0 (fun _ => rfl) squeezes_S1x344x1024_S344x1024 x).mp hx; exact h
/-- The landing areas of row group 0 share no index. -/
theorem land0_disjoint : ∀ k k', k ≠ k' → Disjoint (land0 k) (land0 k') := land_disjoint 688 344 land0 land0_spec
/-- A landing area of gather buffer 0, whatever it holds, is its message's landing view. -/
theorem land0_any (c : Dev nD) (f : S8x688x1024.Idx → Elt F .bf16) : ∀ k, (((c : Thread nD τ).loc cc0_scratch0) ↦[land0 k]{fullShare} f : sProp 𝕄) ⊢ dstAny c (msgOf 0 k) := by
  refine cases8 ?_ ?_ ?_ ?_ ?_ ?_ ?_ ?_
  · exact any_intro c slot0_1 f
  · exact any_intro c slot0_2 f
  · exact any_intro c slot0_3 f
  · exact any_intro c slot0_4 f
  · exact any_intro c slot0_5 f
  · exact any_intro c slot0_6 f
  · exact any_intro c half0_7_0 f
  · exact any_intro c half0_7_1 f
/-- A landed message of row group 0 holds the gathered rows of its landing area. -/
theorem land0_has (A : Dev nD → S2048x1024.Idx → Elt F .bf16) (c : Dev nD) : ∀ k, dstPts A c (msgOf 0 k) = (((c : Thread nD τ).loc cc0_scratch0) ↦[land0 k]{fullShare} gatC0 A c : sProp 𝕄) := by
  refine cases8 ?_ ?_ ?_ ?_ ?_ ?_ ?_ ?_ <;> rfl
/-- The rest of gather buffer 0. -/
def left0 (c : Dev nD) : sProp 𝕄 := iprop(∃ f, ((c : Thread nD τ).loc cc0_scratch0) ↦[Finset.univ \ Finset.univ.biUnion land0]{fullShare} f)
/-- Gather buffer 0 is its eight landing areas and what no message writes. -/
theorem scr0_split (c : Dev nD) :
    iprop(∃ f : Buf (Elt F) ((c : Thread nD τ).loc cc0_scratch0), ((c : Thread nD τ).loc cc0_scratch0) ↦{fullShare} f)
      ⊢ iprop((bigSep Finset.univ fun k => dstAny (F := F) c (msgOf 0 k)) ∗ left0 c) := by
  iintro ⟨%f, H⟩
  ihave H2 := (Entails.of_eq (split_family land0 land0_disjoint f)) $$ H
  icases H2 with ⟨H, Hr⟩
  isplitl [H]
  · iapply (show _ ⊢ _ from bigSep_mono fun k _ => land0_any c f k); iexact H
  unfold left0; iexists f; iexact Hr
/-- The landed messages of row group 0 and what no message writes are the whole of gather buffer 0. -/
theorem scr0_join (A : Dev nD → S2048x1024.Idx → Elt F .bf16) (c : Dev nD) :
    iprop((bigSep Finset.univ fun k => dstPts A c (msgOf 0 k)) ∗ left0 c)
      ⊢ iprop(∃ f : Buf (Elt F) ((c : Thread nD τ).loc cc0_scratch0), ((c : Thread nD τ).loc cc0_scratch0) ↦{fullShare} f) := by
  rw [bigSep_congr fun k _ => land0_has A c k]
  unfold left0
  iintro ⟨H, ⟨%g, Hr⟩⟩
  iapply (join_family land0 land0_disjoint (gatC0 A c) g)
  isplitl [H] <;> iassumption

/-- Where the messages of group 1 land. -/
def land1 : Fin 8 → Finset S8x688x1024.Idx := ![slot1_1.view.set, slot1_2.view.set, slot1_3.view.set, slot1_4.view.set, slot1_5.view.set, slot1_6.view.set, half1_7_0.view.set, half1_7_1.view.set]
/-- Where the landing areas of row group 1 lie: slot and rows. -/
theorem land1_spec : ∀ k x, x ∈ land1 k → (x 0).val = slotAt k ∧ fromAt 344 k ≤ (x 1).val ∧ (x 1).val < fromAt 344 k + lenAt 344 k := by
  refine cases8 ?_ ?_ ?_ ?_ ?_ ?_ ?_ ?_
  · intro x hx; obtain ⟨y, rfl, h⟩ := (mem_slot gat1 1 0 inb_S8x688x1024_S1x688x1024_1_0_0 (fun _ => rfl) squeezes_S1x688x1024_S688x1024 x).mp hx; exact h
  · intro x hx; obtain ⟨y, rfl, h⟩ := (mem_slot gat1 2 0 inb_S8x688x1024_S1x688x1024_2_0_0 (fun _ => rfl) squeezes_S1x688x1024_S688x1024 x).mp hx; exact h
  · intro x hx; obtain ⟨y, rfl, h⟩ := (mem_slot gat1 3 0 inb_S8x688x1024_S1x688x1024_3_0_0 (fun _ => rfl) squeezes_S1x688x1024_S688x1024 x).mp hx; exact h
  · intro x hx; obtain ⟨y, rfl, h⟩ := (mem_slot gat1 4 0 inb_S8x688x1024_S1x688x1024_4_0_0 (fun _ => rfl) squeezes_S1x688x1024_S688x1024 x).mp hx; exact h
  · intro x hx; obtain ⟨y, rfl, h⟩ := (mem_slot gat1 5 0 inb_S8x688x1024_S1x688x1024_5_0_0 (fun _ => rfl) squeezes_S1x688x1024_S688x1024 x).mp hx; exact h
  · intro x hx; obtain ⟨y, rfl, h⟩ := (mem_slot gat1 6 0 inb_S8x688x1024_S1x688x1024_6_0_0 (fun _ => rfl) squeezes_S1x688x1024_S688x1024 x).mp hx; exact h
  · intro x hx; obtain ⟨y, rfl, h⟩ := (mem_slot gat1 7 0 inb_S8x688x1024_S1x344x1024_7_0_0 (fun _ => rfl) squeezes_S1x344x1024_S344x1024 x).mp hx; exact h
  · intro x hx; obtain ⟨y, rfl, h⟩ := (mem_slot gat1 7 344 inb_S8x688x1024_S1x344x1024_7_344_0 (fun _ => rfl) squeezes_S1x344x1024_S344x1024 x).mp hx; exact h
/-- The landing areas of row group 1 share no index. -/
theorem land1_disjoint : ∀ k k', k ≠ k' → Disjoint (land1 k) (land1 k') := land_disjoint 688 344 land1 land1_spec
/-- A landing area of gather buffer 1, whatever it holds, is its message's landing view. -/
theorem land1_any (c : Dev nD) (f : S8x688x1024.Idx → Elt F .bf16) : ∀ k, (((c : Thread nD τ).loc cc0_scratch1) ↦[land1 k]{fullShare} f : sProp 𝕄) ⊢ dstAny c (msgOf 1 k) := by
  refine cases8 ?_ ?_ ?_ ?_ ?_ ?_ ?_ ?_
  · exact any_intro c slot1_1 f
  · exact any_intro c slot1_2 f
  · exact any_intro c slot1_3 f
  · exact any_intro c slot1_4 f
  · exact any_intro c slot1_5 f
  · exact any_intro c slot1_6 f
  · exact any_intro c half1_7_0 f
  · exact any_intro c half1_7_1 f
/-- A landed message of row group 1 holds the gathered rows of its landing area. -/
theorem land1_has (A : Dev nD → S2048x1024.Idx → Elt F .bf16) (c : Dev nD) : ∀ k, dstPts A c (msgOf 1 k) = (((c : Thread nD τ).loc cc0_scratch1) ↦[land1 k]{fullShare} gatC1 A c : sProp 𝕄) := by
  refine cases8 ?_ ?_ ?_ ?_ ?_ ?_ ?_ ?_ <;> rfl
/-- The rest of gather buffer 1. -/
def left1 (c : Dev nD) : sProp 𝕄 := iprop(∃ f, ((c : Thread nD τ).loc cc0_scratch1) ↦[Finset.univ \ Finset.univ.biUnion land1]{fullShare} f)
/-- Gather buffer 1 is its eight landing areas and what no message writes. -/
theorem scr1_split (c : Dev nD) :
    iprop(∃ f : Buf (Elt F) ((c : Thread nD τ).loc cc0_scratch1), ((c : Thread nD τ).loc cc0_scratch1) ↦{fullShare} f)
      ⊢ iprop((bigSep Finset.univ fun k => dstAny (F := F) c (msgOf 1 k)) ∗ left1 c) := by
  iintro ⟨%f, H⟩
  ihave H2 := (Entails.of_eq (split_family land1 land1_disjoint f)) $$ H
  icases H2 with ⟨H, Hr⟩
  isplitl [H]
  · iapply (show _ ⊢ _ from bigSep_mono fun k _ => land1_any c f k); iexact H
  unfold left1; iexists f; iexact Hr
/-- The landed messages of row group 1 and what no message writes are the whole of gather buffer 1. -/
theorem scr1_join (A : Dev nD → S2048x1024.Idx → Elt F .bf16) (c : Dev nD) :
    iprop((bigSep Finset.univ fun k => dstPts A c (msgOf 1 k)) ∗ left1 c)
      ⊢ iprop(∃ f : Buf (Elt F) ((c : Thread nD τ).loc cc0_scratch1), ((c : Thread nD τ).loc cc0_scratch1) ↦{fullShare} f) := by
  rw [bigSep_congr fun k _ => land1_has A c k]
  unfold left1
  iintro ⟨H, ⟨%g, Hr⟩⟩
  iapply (join_family land1 land1_disjoint (gatC1 A c) g)
  isplitl [H] <;> iassumption

/-- Where the messages of group 2 land. -/
def land2 : Fin 8 → Finset S8x672x1024.Idx := ![slot2_1.view.set, slot2_2.view.set, slot2_3.view.set, slot2_4.view.set, slot2_5.view.set, slot2_6.view.set, half2_7_0.view.set, half2_7_1.view.set]
/-- Where the landing areas of row group 2 lie: slot and rows. -/
theorem land2_spec : ∀ k x, x ∈ land2 k → (x 0).val = slotAt k ∧ fromAt 336 k ≤ (x 1).val ∧ (x 1).val < fromAt 336 k + lenAt 336 k := by
  refine cases8 ?_ ?_ ?_ ?_ ?_ ?_ ?_ ?_
  · intro x hx; obtain ⟨y, rfl, h⟩ := (mem_slot gat2 1 0 inb_S8x672x1024_S1x672x1024_1_0_0 (fun _ => rfl) squeezes_S1x672x1024_S672x1024 x).mp hx; exact h
  · intro x hx; obtain ⟨y, rfl, h⟩ := (mem_slot gat2 2 0 inb_S8x672x1024_S1x672x1024_2_0_0 (fun _ => rfl) squeezes_S1x672x1024_S672x1024 x).mp hx; exact h
  · intro x hx; obtain ⟨y, rfl, h⟩ := (mem_slot gat2 3 0 inb_S8x672x1024_S1x672x1024_3_0_0 (fun _ => rfl) squeezes_S1x672x1024_S672x1024 x).mp hx; exact h
  · intro x hx; obtain ⟨y, rfl, h⟩ := (mem_slot gat2 4 0 inb_S8x672x1024_S1x672x1024_4_0_0 (fun _ => rfl) squeezes_S1x672x1024_S672x1024 x).mp hx; exact h
  · intro x hx; obtain ⟨y, rfl, h⟩ := (mem_slot gat2 5 0 inb_S8x672x1024_S1x672x1024_5_0_0 (fun _ => rfl) squeezes_S1x672x1024_S672x1024 x).mp hx; exact h
  · intro x hx; obtain ⟨y, rfl, h⟩ := (mem_slot gat2 6 0 inb_S8x672x1024_S1x672x1024_6_0_0 (fun _ => rfl) squeezes_S1x672x1024_S672x1024 x).mp hx; exact h
  · intro x hx; obtain ⟨y, rfl, h⟩ := (mem_slot gat2 7 0 inb_S8x672x1024_S1x336x1024_7_0_0 (fun _ => rfl) squeezes_S1x336x1024_S336x1024 x).mp hx; exact h
  · intro x hx; obtain ⟨y, rfl, h⟩ := (mem_slot gat2 7 336 inb_S8x672x1024_S1x336x1024_7_336_0 (fun _ => rfl) squeezes_S1x336x1024_S336x1024 x).mp hx; exact h
/-- The landing areas of row group 2 share no index. -/
theorem land2_disjoint : ∀ k k', k ≠ k' → Disjoint (land2 k) (land2 k') := land_disjoint 672 336 land2 land2_spec
/-- A landing area of gather buffer 2, whatever it holds, is its message's landing view. -/
theorem land2_any (c : Dev nD) (f : S8x672x1024.Idx → Elt F .bf16) : ∀ k, (((c : Thread nD τ).loc cc0_scratch2) ↦[land2 k]{fullShare} f : sProp 𝕄) ⊢ dstAny c (msgOf 2 k) := by
  refine cases8 ?_ ?_ ?_ ?_ ?_ ?_ ?_ ?_
  · exact any_intro c slot2_1 f
  · exact any_intro c slot2_2 f
  · exact any_intro c slot2_3 f
  · exact any_intro c slot2_4 f
  · exact any_intro c slot2_5 f
  · exact any_intro c slot2_6 f
  · exact any_intro c half2_7_0 f
  · exact any_intro c half2_7_1 f
/-- A landed message of row group 2 holds the gathered rows of its landing area. -/
theorem land2_has (A : Dev nD → S2048x1024.Idx → Elt F .bf16) (c : Dev nD) : ∀ k, dstPts A c (msgOf 2 k) = (((c : Thread nD τ).loc cc0_scratch2) ↦[land2 k]{fullShare} gatC2 A c : sProp 𝕄) := by
  refine cases8 ?_ ?_ ?_ ?_ ?_ ?_ ?_ ?_ <;> rfl
/-- The rest of gather buffer 2. -/
def left2 (c : Dev nD) : sProp 𝕄 := iprop(∃ f, ((c : Thread nD τ).loc cc0_scratch2) ↦[Finset.univ \ Finset.univ.biUnion land2]{fullShare} f)
/-- Gather buffer 2 is its eight landing areas and what no message writes. -/
theorem scr2_split (c : Dev nD) :
    iprop(∃ f : Buf (Elt F) ((c : Thread nD τ).loc cc0_scratch2), ((c : Thread nD τ).loc cc0_scratch2) ↦{fullShare} f)
      ⊢ iprop((bigSep Finset.univ fun k => dstAny (F := F) c (msgOf 2 k)) ∗ left2 c) := by
  iintro ⟨%f, H⟩
  ihave H2 := (Entails.of_eq (split_family land2 land2_disjoint f)) $$ H
  icases H2 with ⟨H, Hr⟩
  isplitl [H]
  · iapply (show _ ⊢ _ from bigSep_mono fun k _ => land2_any c f k); iexact H
  unfold left2; iexists f; iexact Hr
/-- The landed messages of row group 2 and what no message writes are the whole of gather buffer 2. -/
theorem scr2_join (A : Dev nD → S2048x1024.Idx → Elt F .bf16) (c : Dev nD) :
    iprop((bigSep Finset.univ fun k => dstPts A c (msgOf 2 k)) ∗ left2 c)
      ⊢ iprop(∃ f : Buf (Elt F) ((c : Thread nD τ).loc cc0_scratch2), ((c : Thread nD τ).loc cc0_scratch2) ↦{fullShare} f) := by
  rw [bigSep_congr fun k _ => land2_has A c k]
  unfold left2
  iintro ⟨H, ⟨%g, Hr⟩⟩
  iapply (join_family land2 land2_disjoint (gatC2 A c) g)
  isplitl [H] <;> iassumption

/-! ## Shares put together -/

/-- The messages that send a device's own rows. -/
abbrev heads : Finset (Fin 24) := st₀.src
/-- The messages are those sent of own rows and, for each landed message, those that send its rows on. -/
theorem src_cons (Φ : Fin 24 → sProp 𝕄) : bigSep Finset.univ Φ = iprop(bigSep heads Φ ∗ bigSep Finset.univ fun i => bigSep (cons i) Φ) := by
  rw [← bigSep_biUnion_eq Finset.univ cons (by decide +kernel) Φ, show (Finset.univ : Finset (Fin 24)) = heads ∪ Finset.univ.biUnion cons from by decide +kernel]
  exact (bigSep_union (by decide +kernel)).trans (by rw [← show (Finset.univ : Finset (Fin 24)) = heads ∪ Finset.univ.biUnion cons from by decide +kernel]; rfl)
/-- Each landed message has its own piece. -/
theorem pieceOf_injective : Function.Injective pieceOf := by decide
/-- The pieces are those computed from own rows and, for each message, the piece computed once it has landed. -/
theorem avl_pieces (Φ : Fin 27 → sProp 𝕄) : bigSep Finset.univ Φ = iprop(bigSep st₀.avl Φ ∗ bigSep Finset.univ fun i => Φ (pieceOf i)) := by
  rw [show (Finset.univ : Finset (Fin 27)) = st₀.avl ∪ Finset.univ.map ⟨pieceOf, pieceOf_injective⟩ from by decide +kernel,
    bigSep_union (by decide +kernel), bigSep_map]; rfl

variable (A : Dev nD → S2048x1024.Idx → Elt F .bf16)

/-- A device's own block is the shares its first messages and pieces take. -/
theorem own_eq (c : Dev nD) : (((c : Thread nD τ).loc cc0_stg0_0) ↦{fullShare} A c : sProp 𝕄)
    = iprop((bigSep heads fun i => srcPts A c i) ∗ bigSep st₀.avl fun p => avail A c p) := by
  have hs : (bigSep heads fun i => srcPts A c i) = iprop(srcPts A c 0 ∗ srcPts A c 1 ∗ srcPts A c 3 ∗ srcPts A c 8 ∗ srcPts A c 9 ∗ srcPts A c 11
      ∗ srcPts A c 16 ∗ srcPts A c 17 ∗ srcPts A c 19) := bigSep_eq_bigSepL_of_eq [0, 1, 3, 8, 9, 11, 16, 17, 19] (by decide) (by decide) _
  have ha : (bigSep st₀.avl fun p => avail A c p) = iprop(avail A c 0 ∗ avail A c 9 ∗ avail A c 18) := bigSep_eq_bigSepL_of_eq [0, 9, 18] (by decide) (by decide) _
  obtain ⟨e0, e1, e2⟩ := own_split A c
  rw [own_parts, e0, e1, e2, hs, ha]
  refine BI.Entails.antisymm ?_ ?_
  · show (_ : sProp 𝕄) ⊢ _
    iintro ⟨⟨H0, H1, H2, H3⟩, ⟨H4, H5, H6, H7⟩, H8, H9, H10, H11⟩; iframe
  · show (_ : sProp 𝕄) ⊢ _
    iintro ⟨⟨H0, H1, H2, H3, H4, H5, H6, H7, H8⟩, H9, H10, H11⟩; iframe

/-- All source shares and all pieces' rows are the own block and the landed messages. -/
theorem rows_eq (c : Dev nD) : iprop((bigSep Finset.univ fun i => srcPts A c i) ∗ bigSep Finset.univ fun p => avail A c p)
    = (iprop((((c : Thread nD τ).loc cc0_stg0_0) ↦{fullShare} A c) ∗ bigSep Finset.univ fun i => dstPts A c i) : sProp 𝕄) := by
  rw [src_cons (fun i => srcPts A c i), avl_pieces (fun p => avail A c p), own_eq, bigSep_congr (s := Finset.univ) fun i _ => got_split A c i, bigSep_sep']
  refine BI.Entails.antisymm ?_ ?_
  · show (_ : sProp 𝕄) ⊢ _
    iintro ⟨⟨H0, H1⟩, H2, H3⟩; iframe
  · show (_ : sProp 𝕄) ⊢ _
    iintro ⟨⟨H0, H1⟩, H2, H3⟩; iframe

end Cert.KernelIdeal.Gather

end
-- ==== Proof.Outs.lean ====
/- The result array as its 27 pieces. -/
module

public import proofs.«01_k».proof.Proof.Buffers

@[expose] public section

set_option maxRecDepth 100000

noncomputable section

namespace Cert.KernelIdeal.Gather

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

/-! ## Where the pieces go -/

/-- A view of whole rows of the result covers just those rows. -/
theorem res_set {n : ℕ} (off : Fin 2 → ℕ) (inb : ∀ a, off a + (⟨2, ![n, 2048]⟩ : Shape).size a ≤ S16384x2048.size a) (hr) :
    (res.slice (Rect.unit (s := S16384x2048) off (⟨2, ![n, 2048]⟩ : Shape).size inb) hr).view.set = (rowsOf (off 0) n : Finset S16384x2048.Idx) :=
  (View.set_slice_whole _ _).trans (rect_rows off (by have : off 1 + 2048 ≤ 2048 := inb 1; omega) inb)

/-- Piece `p` of the result is rows `lo, …, lo + cnt - 1`. -/
theorem os_eq (c : Dev nD) (p : Fin 27) : (pc p).os c = rowsOf ((pc p).lo c) (pc p).cnt := by
  revert p; apply cases27 <;> exact res_set _ _ _

/-- Where the pieces start, in closed form: block `c xor d`, then the group's first row, then the half's. -/
def blkOf : Fin 27 → ℕ := ![0, 1, 3, 2, 4, 5, 7, 6, 6, 0, 3, 4, 7, 1, 2, 5, 6, 6, 0, 4, 1, 5, 3, 7, 2, 6, 6]
def rowOf : Fin 27 → ℕ := ![0, 0, 0, 0, 0, 0, 0, 0, 344, 688, 688, 688, 688, 688, 688, 688, 688, 1032, 1376, 1376, 1376, 1376, 1376, 1376, 1376, 1376, 1712]
def cntOf : Fin 27 → ℕ := ![688, 688, 688, 688, 688, 688, 688, 344, 344, 688, 688, 688, 688, 688, 688, 688, 344, 344, 672, 672, 672, 672, 672, 672, 672, 336, 336]
def loOf (c : Dev nD) (p : Fin 27) : ℕ := 2048 * (c.val ^^^ blkOf p) + rowOf p
/-- The table's first row of a piece is the closed form. -/
theorem lo_eq (c : Dev nD) (p : Fin 27) : (pc p).lo c = loOf c p := by
  revert p; apply cases27 <;> (revert c; decide +kernel)
/-- So is its count of rows. -/
theorem cnt_eq (p : Fin 27) : (pc p).cnt = cntOf p := by revert p; apply cases27 <;> rfl

/-- Two pieces' rows are apart, on every device. -/
theorem lo_apart : ∀ (c : Dev nD) (p p' : Fin 27), p ≠ p' → loOf c p + cntOf p ≤ loOf c p' ∨ loOf c p' + cntOf p' ≤ loOf c p := by decide +kernel
/-- Two pieces share no element. -/
theorem os_disjoint (c : Dev nD) (p p' : Fin 27) (h : p ≠ p') : Disjoint ((pc p).os c) ((pc p').os c) := by
  rw [os_eq, os_eq, lo_eq, lo_eq, cnt_eq, cnt_eq]; exact rowsOf_disjoint (lo_apart c p p' h)

/-- Every row is in a piece. -/
theorem lo_cover : ∀ (c d : Dev nD) (q : Fin 6), ∃ p : Fin 27, loOf c p ≤ 2048 * d.val + ![0, 344, 688, 1032, 1376, 1712] q
    ∧ 2048 * d.val + ![344, 688, 1032, 1376, 1712, 2048] q ≤ loOf c p + cntOf p := by decide +kernel
/-- Every row belongs to a piece. -/
theorem row_covered (c : Dev nD) (R : ℕ) (hR : R < 16384) : ∃ p : Fin 27, loOf c p ≤ R ∧ R < loOf c p + cntOf p := by
  have hd : R / 2048 < 8 := by omega
  have hq : ∃ q : Fin 6, ![0, 344, 688, 1032, 1376, 1712] q ≤ R % 2048 ∧ R % 2048 < ![344, 688, 1032, 1376, 1712, 2048] q := by
    have hr : R % 2048 < 2048 := Nat.mod_lt _ (by decide)
    generalize R % 2048 = r at hr
    rcases Nat.lt_or_ge r 344 with h | h
    · exact ⟨0, Nat.zero_le _, h⟩
    rcases Nat.lt_or_ge r 688 with h1 | h1
    · exact ⟨1, h, h1⟩
    rcases Nat.lt_or_ge r 1032 with h2 | h2
    · exact ⟨2, h1, h2⟩
    rcases Nat.lt_or_ge r 1376 with h3 | h3
    · exact ⟨3, h2, h3⟩
    rcases Nat.lt_or_ge r 1712 with h4 | h4
    · exact ⟨4, h3, h4⟩
    exact ⟨5, h4, hr⟩
  obtain ⟨q, h1, h2⟩ := hq
  obtain ⟨p, h3, h4⟩ := lo_cover c ⟨R / 2048, hd⟩ q
  refine ⟨p, ?_, ?_⟩
  · dsimp only at h3; omega
  · dsimp only at h4; omega
/-- The pieces together are the whole result. -/
theorem os_cover (c : Dev nD) : Finset.univ.biUnion (fun p => (pc p).os c) = (Finset.univ : Finset S16384x2048.Idx) := by
  ext x
  simp only [Finset.mem_biUnion, Finset.mem_univ, true_and, iff_true]
  obtain ⟨p, h⟩ := row_covered c (x 0).val (x 0).isLt
  exact ⟨p, by rw [os_eq, lo_eq, cnt_eq]; exact (mem_rowsOf x).mpr h⟩

/-! ## The array divided and put together -/

/-- Disjoint parts, each holding something of a property that only looks at the part, are their union holding something
    of all the properties. -/
theorem join_has {ℓ : Loc nD τ sig} {T : Type} [DecidableEq T] (S : Finset T) (K : T → Finset (Idx ℓ)) (hd : ∀ t ∈ S, ∀ t' ∈ S, t ≠ t' → Disjoint (K t) (K t'))
    (P : T → Buf (Elt F) ℓ → Prop) (hP : ∀ t f g, (∀ x ∈ K t, f x = g x) → P t f → P t g) (f₀ : Buf (Elt F) ℓ) :
    (bigSep S fun t => iprop(∃ f, ⌜P t f⌝ ∗ ℓ ↦[K t]{fullShare} f)) ⊢ (iprop(∃ g, ⌜∀ t ∈ S, P t g⌝ ∗ ℓ ↦[S.biUnion K]{fullShare} g) : sProp 𝕄) := by
  induction S using Finset.induction_on with
  | empty =>
    rw [Finset.biUnion_empty]
    iintro -
    iexists f₀
    isplitr
    · ipureintro; exact fun t ht => absurd ht (Finset.notMem_empty t)
    rw [pointsTo_empty]; iempintro
  | insert a S ha ih =>
    have hdis : Disjoint (K a) (S.biUnion K) := (Finset.disjoint_biUnion_right _ _ _).mpr fun b hb =>
      hd a (Finset.mem_insert_self _ _) b (Finset.mem_insert_of_mem hb) fun e => ha (e ▸ hb)
    rw [big_insert ha, Finset.biUnion_insert]
    iintro ⟨⟨%f, %hf, H1⟩, H2⟩
    ihave H3 := (ih fun x hx y hy => hd x (Finset.mem_insert_of_mem hx) y (Finset.mem_insert_of_mem hy)) $$ H2
    icases H3 with ⟨%g, %hg, H2⟩
    iexists ((S.biUnion K).piecewise g f)
    isplitr
    · ipureintro
      intro t ht
      rcases Finset.mem_insert.mp ht with rfl | ht
      · exact hP t f _ (fun x hx => (Finset.piecewise_eq_of_notMem _ _ _ (Finset.disjoint_left.mp hdis hx)).symm) hf
      · exact hP t g _ (fun x hx => (Finset.piecewise_eq_of_mem _ _ _ (Finset.mem_biUnion.mpr ⟨t, ht, hx⟩)).symm) (hg t ht)
    iapply (pointsTo_join hdis)
    isplitl [H1] <;> iassumption

/-- A piece of the result, whatever it holds, as a part of the result array. -/
theorem outAny_eq (c : Dev nD) (p : Fin 27) : outAny (F := F) c p = iprop(∃ f : Buf (Elt F) ((c : Thread nD τ).loc main_v1), ((c : Thread nD τ).loc main_v1) ↦[(pc p).os c]{fullShare} f) := by
  revert p; apply cases27 <;> rfl

/-- The result array, divided into its pieces. -/
theorem out_split (c : Dev nD) (f : Buf (Elt F) ((c : Thread nD τ).loc main_v1)) :
    (((c : Thread nD τ).loc main_v1) ↦{fullShare} f : sProp 𝕄) ⊢ bigSep Finset.univ fun p => outAny (F := F) c p := by
  have e : (((c : Thread nD τ).loc main_v1) ↦{fullShare} f : sProp 𝕄) = bigSep Finset.univ fun p => ((c : Thread nD τ).loc main_v1) ↦[(pc p).os c]{fullShare} f := by
    refine Eq.trans ?_ (pointsTo_biUnion (ℓ := (c : Thread nD τ).loc main_v1) Finset.univ (fun p => (pc p).os c) fun p _ p' _ h => os_disjoint c p p' h)
    exact congrArg (fun S : Finset S16384x2048.Idx => (((c : Thread nD τ).loc main_v1) ↦[S]{fullShare} f : sProp 𝕄)) (os_cover c).symm
  rw [e]
  refine (show _ ⊢ _ from bigSep_mono fun p _ => ?_)
  rw [outAny_eq]
  show (_ : sProp 𝕄) ⊢ _
  iintro H; iexists f; iexact H

/-- Reading a piece only looks at the piece. -/
theorem rd_congr (c : Dev nD) (p : Fin 27) (f g : S16384x2048.Idx → Elt F .bf16) (h : ∀ x ∈ (pc p).os c, f x = g x) : (pc p).rd c f = (pc p).rd c g := by
  revert h; revert p
  apply cases27 <;> exact fun h => funext fun x => h _ (Finset.mem_map_of_mem _ (Finset.mem_univ x))

variable [FloatOps F] (A : Dev nD → S2048x1024.Idx → Elt F .bf16) (B : Dev nD → S1024x2048.Idx → Elt F .bf16)

/-- A piece of the result holding its product, as a part of the result array. -/
theorem outHas_eq (c : Dev nD) (p : Fin 27) : outHas A B c p
    = iprop(∃ f : Buf (Elt F) ((c : Thread nD τ).loc main_v1), ⌜(pc p).rd c f = pieceVal A B c p⌝ ∗ ((c : Thread nD τ).loc main_v1) ↦[(pc p).os c]{fullShare} f) := by
  revert p; apply cases27 <;> rfl

/-- The result array holds every piece. -/
def IsOut (c : Dev nD) (f : S16384x2048.Idx → Elt F .bf16) : Prop := ∀ p, (pc p).rd c f = pieceVal A B c p

/-- The pieces, each holding its product, are a result array that holds them all. -/
theorem out_join (c : Dev nD) : (bigSep Finset.univ fun p => outHas A B c p)
    ⊢ (iprop(∃ f : Buf (Elt F) ((c : Thread nD τ).loc main_v1), ⌜IsOut A B c f⌝ ∗ ((c : Thread nD τ).loc main_v1) ↦{fullShare} f) : sProp 𝕄) := by
  rw [bigSep_congr fun p _ => outHas_eq A B c p]
  have h := join_has (F := F) (ℓ := (c : Thread nD τ).loc main_v1) Finset.univ (fun p => (pc p).os c) (fun p _ p' _ => os_disjoint c p p')
    (fun p f => (pc p).rd c f = pieceVal A B c p) (fun p f g e hf => (rd_congr c p f g e).symm.trans hf) (fun _ => B c (ix2 0 0))
  refine h.trans ?_
  iintro ⟨%g, %hg, H⟩
  iexists g
  isplitr
  · ipureintro; exact fun p => hg p (Finset.mem_univ p)
  iapply (Entails.of_eq (congrArg (fun S : Finset S16384x2048.Idx => (((c : Thread nD τ).loc main_v1) ↦[S]{fullShare} g : sProp 𝕄)) (os_cover c)))
  iexact H

end Cert.KernelIdeal.Gather

end
-- ==== Proof.Body.lean ====
/- The body's text is the listed steps. -/
module

public import proofs.«01_k».proof.Proof.Tables

@[expose] public section

set_option maxRecDepth 100000

noncomputable section

namespace Cert.KernelIdeal.Gather

open Idealize.ShloMosaic Idealize.ShloMosaic.TcCoe Idealize.SL.Sem
open Cert.KernelIdeal Cert.KernelIdeal.Gen

variable {F : FTy → Type} [FloatOps F]

/-- The kernel's body on its buffers is the barrier followed by the listed steps. -/
theorem body_eq : cc0_body_skel (F := F) blkA (Memref.isWhole_whole _) matB (Memref.isWhole_whole _) res (Memref.isWhole_whole _) gat0 (Memref.isWhole_whole _) gat1 (Memref.isWhole_whole _) gat2 (Memref.isWhole_whole _) cbuf0 (Memref.isWhole_whole _) cbuf1 (Memref.isWhole_whole _) cbuf2 (Memref.isWhole_whole _) cc0_scratch6 cc0_scratch7 cc0_scratch8 = body := rfl

end Cert.KernelIdeal.Gather

end
-- ==== Proof.Run.lean ====
/- The run of the whole program: the launch, every device's body, and what is left. -/
module

public import proofs.«01_k».proof.Proof.Ghost
public import proofs.«01_k».proof.Proof.Buffers
public import proofs.«01_k».proof.Proof.Outs
public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 100000

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
local notation "𝕄" => MT nD τ sig Unit (Elt F) ℕ UU ℕ

/-! ## Into the body and out of it -/

section Around
variable (A : Dev nD → S2048x1024.Idx → Elt F .bf16) (B : Dev nD → S1024x2048.Idx → Elt F .bf16)

/-- A scratch buffer at anything. -/
abbrev anyBuf (c : Dev nD) (b : Ref sig .tc) : sProp 𝕄 := iprop(∃ f : Buf (Elt F) ((c : Thread nD τ).loc b), ((c : Thread nD τ).loc b) ↦{fullShare} f)

/-- What the body leaves untouched. -/
def aside (c : Dev nD) : sProp 𝕄 := iprop(left0 (F := F) c ∗ left1 (F := F) c ∗ left2 (F := F) c ∗ idleSems (F := F) c)

omit [FloatOps F] in
/-- The pieces' buffers and semaphores at rest are the three product buffers and the three copy semaphores. -/
theorem rest_three (c : Dev nD) : (bigSep Finset.univ fun g => restP (F := F) c (headP g))
    = iprop(copySems (F := F) c ∗ anyBuf c cc0_scratch3 ∗ anyBuf c cc0_scratch4 ∗ anyBuf c cc0_scratch5) := by
  have e : (bigSep Finset.univ fun g => restP (F := F) c (headP g))
      = iprop(copySems (F := F) c ∗ bigSep Finset.univ fun g => iprop(∃ f, (pc (headP g)).cb.view.loc (c : Thread nD τ) ↦{fullShare} f)) := by
    unfold restP copySems copySem; rw [bigSep_sep']
  rw [e, bigSep_three]
  rfl

omit [FloatOps F] in
/-- The landing areas are the gather buffers less what no message touches. -/
theorem lands_in (c : Dev nD) : iprop(anyBuf (F := F) c cc0_scratch0 ∗ anyBuf (F := F) c cc0_scratch1 ∗ anyBuf (F := F) c cc0_scratch2)
    ⊢ iprop((bigSep Finset.univ fun i => dstAny (F := F) c i) ∗ left0 (F := F) c ∗ left1 (F := F) c ∗ left2 (F := F) c) := by
  rw [bigSep_msgs]
  iintro ⟨H0, H1, H2⟩
  ihave H0 := (scr0_split c) $$ H0
  ihave H1 := (scr1_split c) $$ H1
  ihave H2 := (scr2_split c) $$ H2
  icases H0 with ⟨H0, R0⟩
  icases H1 with ⟨H1, R1⟩
  icases H2 with ⟨H2, R2⟩
  iframe

omit [FloatOps F] in
/-- The landed messages and what no message wrote are the three gather buffers. -/
theorem lands_out (c : Dev nD) : iprop((bigSep Finset.univ fun i => dstPts A c i) ∗ left0 (F := F) c ∗ left1 (F := F) c ∗ left2 (F := F) c)
    ⊢ iprop(anyBuf (F := F) c cc0_scratch0 ∗ anyBuf (F := F) c cc0_scratch1 ∗ anyBuf (F := F) c cc0_scratch2) := by
  rw [bigSep_msgs]
  iintro ⟨⟨H0, H1, H2⟩, R0, R1, R2⟩
  isplitl [H0 R0]
  · iapply (scr0_join A c); isplitl [H0] <;> iassumption
  isplitl [H1 R1]
  · iapply (scr1_join A c); isplitl [H1] <;> iassumption
  iapply (scr2_join A c); isplitl [H2] <;> iassumption

/-- What a device has when its body begins, the staged blocks and the debts apart. -/
def entry (c : Dev nD) : sProp 𝕄 :=
  iprop((bigSep Finset.univ fun x : CI => atPos ER (cell c x) 0 ∅ 0) ∗ dealt (F := F) c ∗ spare (F := F) c
    ∗ (cred (tallyAt (barCell c) () 3) ∗ bigSep Finset.univ fun i => cred (tallyAt (recvCell c i) () (amt i)))
    ∗ anyBuf c main_v1 ∗ Pipeline.scopedRest spec0 c)

omit [FloatOps F] in
/-- What a device has at the launch is what its body starts from. -/
theorem enter (c : Dev nD) :
    iprop(entry (F := F) c ∗ (∃ W, owes (c : Thread nD τ) (O₀ c) W) ∗ (((c : Thread nD τ).loc cc0_stg0_0) ↦{fullShare} A c) ∗ (((c : Thread nD τ).loc cc0_stg1_0) ↦{fullShare} B c))
      ⊢ iprop(start A B c ∗ aside (F := F) c) := by
  unfold entry start aside dealt spare toks waits matPts
  rw [scopedRest0_eq, big_cells c (fun g => atPos ER g 0 ∅ 0), rest_three, own_eq]
  iintro ⟨⟨⟨HaB, HaS, HaR⟩, ⟨HtB, HtS, HtR⟩, ⟨Hcp, Hid⟩, ⟨HcB, HcR⟩, ⟨%f, Hv⟩, H0, H1, H2, H3, H4, H5⟩, HO, ⟨HS, HA⟩, HB⟩
  ihave Hl := (lands_in (F := F) c) $$ [H0 H1 H2]
  · isplitl [H0]; · iexact H0
    isplitl [H1] <;> iassumption
  icases Hl with ⟨Hd, R0, R1, R2⟩
  ihave Hu := (out_split c f) $$ Hv
  simp only [bigSep_sep']
  isplitr [R0 R1 R2 Hid]
  · isplitl [HO]; · iexact HO
    isplitl [HtB]; · iexact HtB
    isplitl [HaB]; · iexact HaB
    isplitl [HcB]; · iexact HcB
    isplitl [HtS HtR HaS HaR HcR]
    · iframe
    isplitl [Hd]; · iexact Hd
    isplitl [HS]; · iexact HS
    isplitl [HA]; · iexact HA
    isplitl [Hu]; · iexact Hu
    isplitr [HB]
    · isplitl [Hcp]; · iexact Hcp
      isplitl [H3]; · iexact H3
      isplitl [H4] <;> iassumption
    iexact HB
  · iframe

omit [FloatOps F] in
/-- Every cell is closed: its semaphore is back, at zero. -/
theorem close_cells (K : Dev nD × CI → ℕ) (c : Dev nD) :
    iprop(records A K ∗ (bigSep Finset.univ fun i => gotR (F := F) c i) ∗ atPos ER (barCell c) 1 ∅ 0)
      ⊢ |={Set.univ}=> (iprop(semVal (barCell c) 0 ∗ bigSep Finset.univ fun x : Bool × Fin 24 => semVal (cell c (some x)) 0) : sProp 𝕄) := by
  have h (x : CI) : iprop(records A K ∗ atPos ER (cell c x) 1 ∅ 0) ⊢ (|={Set.univ}=> semVal (cell c x) 0 : sProp 𝕄) := by
    iintro ⟨#HR, H⟩
    iapply (Rounds.cell_close ER (Rd A) (Set.mem_univ (K (c, x))) (fun h => h) (R := 0 + 1) (duties_later A (cell c x)))
    isplitr; · iapply (records_inv A K c x); iexact HR
    iexact H
  unfold gotR
  rw [bigSep_sep']
  iintro ⟨#HR, ⟨HS, HV⟩, HB⟩
  ihave H := (Entails.of_eq (big_cells (F := F) c fun g => atPos ER g 1 ∅ 0).symm) $$ [HS HV HB]
  · isplitl [HB]; · iexact HB
    isplitl [HS] <;> iassumption
  imod (((with_persistent (F := F) (R := records A K) (S := Finset.univ) (Φ := fun x : CI => atPos ER (cell c x) 1 ∅ 0) fun x _ => h x).trans (bigSep_fupd _ _))) $$ [H] with H
  · isplitr; · iexact HR
    iexact H
  imodintro
  iapply (Entails.of_eq (big_CI (F := F) fun x => semVal (cell c x) 0)); iexact H

/-- What a device has when its body has ended. -/
def exit (c : Dev nD) : sProp 𝕄 :=
  iprop((unscopedSems0 c ∗ ∃ f : Buf (Elt F) ((c : Thread nD τ).loc main_v1), ⌜IsOut A B c f⌝ ∗ ((c : Thread nD τ).loc main_v1) ↦{fullShare} f)
    ∗ Pipeline.ownSems0 (Ix := Unit) (Name := ℕ) (U := UU) (Lvl := ℕ) (Val := Elt F) (τ := τ) osem c ∗ Pipeline.scopedRest spec0 c)

/-- What a device holds when its steps are done is what it must return. -/
theorem leave (K : Dev nD × CI → ℕ) (c : Dev nD) :
    iprop(records A K ∗ (hold A B c st₁ ∗ atPos ER (barCell c) 1 ∅ 0) ∗ aside (F := F) c)
      ⊢ |={Set.univ}=> iprop(exit A B c ∗ (∃ W, owes (c : Thread nD τ) 0 W) ∗ (((c : Thread nD τ).loc cc0_stg0_0) ↦{fullShare} A c) ∗ (((c : Thread nD τ).loc cc0_stg1_0) ↦{fullShare} B c)) := by
  unfold hold exit aside owed matPts
  dsimp only [st₁]
  rw [scopedRest0_eq, rest_three, ownSems0_eq, unscopedSems0_eq, oweMsgs_empty]
  simp only [bigSep_empty]
  iintro ⟨#HR, ⟨⟨HO, -, -, HG, HS, HA, -, -, HD, ⟨Hcp, H3, H4, H5⟩, HB⟩, Hbar⟩, R0, R1, R2, Hid⟩
  imod (close_cells A K c) $$ [HG Hbar] with ⟨Hb, Hm⟩
  · isplitr; · iexact HR
    isplitl [HG] <;> iassumption
  imodintro
  ihave Hr := (Entails.of_eq (rows_eq A c)) $$ [HS HA]
  · isplitl [HS] <;> iassumption
  icases Hr with ⟨Hx, Hd⟩
  ihave Hl := (lands_out A c) $$ [Hd R0 R1 R2]
  · iframe
  icases Hl with ⟨H0, H1, H2⟩
  ihave Hout := (out_join A B c) $$ HD
  isplitr [HO Hx HB]
  · isplitl [Hb Hout]
    · isplitl [Hb] <;> iassumption
    isplitl [Hm Hcp Hid]
    · iframe
    iframe
  isplitl [HO]; · iexact HO
  isplitl [Hx] <;> iassumption

end Around

/-! ## The launch -/

variable (m : (ℓ : Loc nD τ sig) → Buf (Elt F) ℓ) (ρ : Dev nD → PrngReg)

/-- The rows and the matrix as they are staged. -/
def inA (c : Dev nD) : S2048x1024.Idx → Elt F .bf16 := (win0_0.blk (0 : Fin 1)).view.read (Elt F) (m ((c : Thread nD τ).loc main_arg0))
def inB (c : Dev nD) : S1024x2048.Idx → Elt F .bf16 := (win0_1.blk (0 : Fin 1)).view.read (Elt F) (m ((c : Thread nD τ).loc main_arg1))

/-- What a device carries from the launch to its body. -/
def carried (c : Dev nD) : sProp 𝕄 :=
  iprop(G' (inA m) c ∗ levAts L lev ∗ (cred (tallyAt (barCell c) () 3) ∗ bigSep Finset.univ fun i => cred (tallyAt (recvCell c i) () (amt i))) ∗ anyBuf c main_v1)

def dats (_ : Fin 1) (c : Dev nD) : Dat τ (Elt F) Unit ℕ UU ℕ cfg0 c where
  A w := m ((cfg0.win w).arr.view.loc (c : Thread nD τ))
  after w _ := match w with
    | ⟨0, _⟩ => inA m c
    | ⟨1, _⟩ => inB m c
  Φ t := match t with
    | ⟨0, _⟩ => iprop(carried m c ∗ Pipeline.scopedRest spec0 c)
    | ⟨_ + 1, _⟩ => exit (inA m) (inB m) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A whole staging buffer, in the two ways in which it is written. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- A conjunction over the two windows. -/
theorem bigSep_W (Φ : Fin cfg0.W → sProp 𝕄) : bigSep Finset.univ Φ = iprop(Φ (0 : Fin 2) ∗ Φ (1 : Fin 2)) := bigSep_W0 Φ

def bodyPre (c : Dev nD) : sProp 𝕄 :=
  iprop((carried m c ∗ Pipeline.scopedRest spec0 c) ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
def bodyPost (c : Dev nD) : sProp 𝕄 :=
  iprop(exit (inA m) (inB m) c ∗ (dats m 0 c).owesAt () t0_0.succ ∗ stg c cc0_stg0_0 (inA m c) ∗ stg c cc0_stg1_0 (inB m c))

/-- The staging buffer of `A` holds the device's rows when the body starts, -/
theorem before_A (c : Dev nD) (d) : (dats m 0 c).before (0 : Fin 2) t0_0 d = inA m c := by
  unfold Dat.before; rw [if_pos (fetch0_0 t0_0)]; rfl
/-- and the staging buffer of `B` its copy of the matrix. -/
theorem before_B (c : Dev nD) (d) : (dats m 0 c).before (1 : Fin 2) t0_0 d = inB m c := by
  unfold Dat.before; rw [if_pos (fetch0_1 t0_0)]; rfl

/-- The body takes what the launch carries to it to what the program ends with. -/
theorem sound_body (c : Dev nD) :
    bodyPre m c ⊢ wp frame (wpE (defs₀ (F := F)) 𝒱₀ (c : Thread nD τ) none) Set.univ body (fun _ => bodyPost m c) := by
  unfold bodyPre carried G'
  iintro ⟨⟨⟨⟨%K, #Ho, HaT, Hde, Hsp⟩, #Hlev, Hcr, Hv⟩, Hsc⟩, HO, ⟨%d0, %g0, %hg0, Hx⟩, ⟨%d1, %g1, %hg1, Hy⟩⟩
  rw [before_A] at hg0
  rw [before_B] at hg1
  subst hg0; subst hg1
  unfold Dat.owesAt Pipeline.owesWithin
  icases HO with ⟨%W, -, HO⟩
  ihave #HR : records (inA m) K $$ []
  · unfold records
    unfold opened
    icases Ho with ⟨#H1, #H2⟩
    isplitr; · iexact H1
    isplitr; · iexact H2
    iexact Hlev
  ihave Hst := (enter (inA m) (inB m) c) $$ [HaT Hde Hsp Hcr Hv Hsc HO Hx Hy]
  · unfold entry
    isplitr [HO Hx Hy]
    · iframe
    isplitl [HO]; · iexists W; iexact HO
    isplitl [Hx] <;> iassumption
  icases Hst with ⟨Hst, Has⟩
  iapply (wp_fupd _ _ _ _)
  iapply (wp_body (A := inA m) (B := inB m) K c) $$ [Hst]
  · isplitr; · iexact HR
    iexact Hst
  iintro H
  imod (leave (inA m) (inB m) K c) $$ [H Has] with ⟨Hex, ⟨%W', HO⟩, Hx, Hy⟩
  · isplitr; · iexact HR
    isplitl [H] <;> iassumption
  imodintro
  unfold bodyPost
  isplitl [Hex]; · iexact Hex
  isplitl [HO]
  · unfold Dat.owesAt Pipeline.owesWithin
    rw [show (dats m 0 c).owed t0_0.succ = 0 from rfl]
    iexists W'
    isplitr; · ipureintro; exact fun _ _ => Or.inl trivial
    iexact HO
  isplitl [Hx]
  · iexists _; isplitr; · (ipureintro; rfl)
    iexact Hx
  iexists _; isplitr; · (ipureintro; rfl)
  iexact Hy

/-- The kernel's one grid point does what the launch asks of it. -/
theorem body_obligation (c : Dev nD) : BodyObligation (dats m 0 c) (defs₀ (F := F)) 𝒱₀ () Set.univ := fun t => by
  rw [fin_N0 t, bigSep_W, bigSep_W]
  simp only [owns_whole_eq]
  show bodyPre m c ⊢ wp frame (wpE (defs₀ (F := F)) 𝒱₀ (c : Thread nD τ) none) Set.univ
    (cc0_body blkA (Memref.isWhole_whole _) matB (Memref.isWhole_whole _) res (Memref.isWhole_whole _) gat0 (Memref.isWhole_whole _) gat1 (Memref.isWhole_whole _) gat2 (Memref.isWhole_whole _) cbuf0 (Memref.isWhole_whole _) cbuf1 (Memref.isWhole_whole _) cbuf2 (Memref.isWhole_whole _) cc0_scratch6 cc0_scratch7 cc0_scratch8) (fun _ => bodyPost m c)
  rw [cc0_body_eq_skeleton, body_eq]
  exact sound_body m c

/-- Every window is held whole. -/
theorem share_eq (c : Dev nD) (w : Fin cfg0.W) : (dats m 0 c).share w = fullShare := by unfold Dat.share; split <;> rfl

/-- What the launch leaves a device is what it carries to its body. -/
theorem start_intro (c : Dev nD) :
    iprop(Pipeline.unscopedRestP Pipeline.Prefetch.none cfg0.spec c (fun b => m ((c : Thread nD τ).loc b)) ∗ levAts L lev
        ∗ Pipeline.launchCred O₀ c ∗ prngReg c (ρ c) ∗ G' (inA m) c)
      ⊢ |={Set.univ}=> iprop(carried m c ∗ emp) := by
  rw [Pipeline.unscopedRestP_none]
  iintro ⟨Hv, Hlev, Hcr, -, HG⟩
  ihave Hc := (creds (F := F) c) $$ Hcr
  ihave Hv' := (Entails.of_eq (unscopedRest0_eq (Val := Elt F) (Ix := Unit) (Name := ℕ) (U := UU) (Lvl := ℕ) c fun b => m ((c : Thread nD τ).loc b))) $$ Hv
  imodintro
  unfold carried
  isplitl
  · isplitl [HG]; · iexact HG
    isplitl [Hlev]; · iexact Hlev
    isplitl [Hc]; · iexact Hc
    iexists _; iexact Hv'
  iempintro

/-- It is what the body's grid point begins from. -/
theorem phi0_intro (c : Dev nD) :
    iprop(carried m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(carried m c ∗ Pipeline.scopedRest spec0 c) from rfl]
  iintro ⟨Hs, -, Hr⟩
  isplitl [Hs] <;> iassumption

omit [FloatOps F] in
/-- The staging semaphores are at level zero. -/
theorem lev_stage (c : Dev nD) (w : Fin 2) (s : Fin (spec0 w).nbuf) : lev ((c : Thread nD τ), .dma ((spec0 w).sem s)) () = 0 := by
  have h : ixOf (.dma ((spec0 w).sem s)) = none := by
    unfold ixOf
    rw [dif_neg]
    exact fun ⟨x, hx⟩ => (by decide +kernel : ∀ (w : Fin 2) (s : Fin (spec0 w).nbuf) (x : CI), semOf x ≠ .dma ((spec0 w).sem s)) w s x hx
  unfold lev; rw [h]; rfl

/-- The pipeline's waits are allowed, before the body and after it. -/
theorem stage_waits (c : Dev nD) : (levAts L lev : sProp 𝕄) ⊢ Pipeline.cellsWaits cfgs (dats m) () 0 c :=
  Pipeline.cellsWaits_intro cfgs (dats m) () 0 c fun w s t => by
    rcases t with ⟨_ | _, ht⟩
    · exact mayWait_launch c _ (lev_stage c w s)
    · rw [show (dats m 0 c).owed ⟨_ + 1, ht⟩ = 0 from rfl, MayWait_zero]
      iintro -; iempintro

/-- How the program leaves memory `m`: every device's result array holds every piece, its arguments are what they were, and
    every counter is at zero. -/
def After (s : MemSt nD τ sig (Elt F)) : Prop :=
  (∀ c : Dev nD, IsOut (inA m) (inB m) c (s.mem ((c : Thread nD τ).loc main_v1))
    ∧ s.mem ((c : Thread nD τ).loc main_arg0) = m ((c : Thread nD τ).loc main_arg0) ∧ s.mem ((c : Thread nD τ).loc main_arg1) = m ((c : Thread nD τ).loc main_arg1))
  ∧ s.sem = fun _ => 0

/-- Every weakly fair execution of the program from any memory with zero counters terminates, and leaves memory so. -/
theorem run_main : θ_run defs (onTc (τ := τ) (main (F := F))) ⟨m, fun _ => 0, ρ⟩ (fun r => After m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lev) (hL := L_of_ne) (hwaits := stage_waits m)
    (G := G (inA m)) (G' := G' (inA m)) (u₀ := u₀)
    (hu₀ := by
      iintro Hu
      ihave H := (own_u₀ (F := F)) $$ Hu
      icases H with ⟨HP, HX⟩
      imod (fund_ring (inA m)) $$ HX with HG
      imodintro
      isplitl [HP] <;> iassumption)
    (hglob := glob (inA m))
    (hA := fun _ _ => rfl) (hpf := fun _ k => k.elim0)
    (X := carried m) (Y := fun c => iprop(unscopedSems0 c ∗ ∃ f : Buf (Elt F) ((c : Thread nD τ).loc main_v1), ⌜IsOut (inA m) (inB m) c f⌝ ∗ ((c : Thread nD τ).loc main_v1) ↦{fullShare} f)) (Z := fun _ => iprop(emp))
    (hX := start_intro m ρ) (hin := phi0_intro m) (hout := fun c => BI.Entails.refl _)
    (QY := fun c s => (∀ sm : SemLoc sig, sm.isScoped .tc = false → s.sem ((c.tc : Thread nD τ), sm) = 0)
      ∧ IsOut (inA m) (inB m) c (s.mem ((c : Thread nD τ).loc main_v1)))
    (hY := fun c s' => by
      iintro ⟨⟨Hu, ⟨%f, %hf, Hv⟩⟩, -, HSI⟩
      ihave H := (pointsTo_read_all (S := ({()} : Finset Unit)) (fun _ => (c : Thread nD τ).loc main_v1) (fun _ => f) s') $$ [Hv HSI]
      · isplitl [Hv]
        · rw [bigSep_singleton]; iexact Hv
        iexact HSI
      icases H with ⟨%hv, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hz, by rw [hv () (Finset.mem_singleton_self _)]; exact hf⟩
      iexact HSI)
    (hQ := fun s h hs => ⟨fun c => ⟨(h c).2.2.2, ((h c).1 0).trans ((dats m 0 c).arrAt_in (0 : Fin 2) rfl _), ((h c).1 1).trans ((dats m 0 c).arrAt_in (1 : Fin 2) rfl _)⟩,
      sem_eq_zero hs fun c => (h c).2.2.1⟩)

end Cert.KernelIdeal.Gather

end
-- ==== Proof.Values.lean ====
/- What one product computes over the extended reals: every element a sum of products, of rows of `A`'s blocks and
   columns of `B`. -/
module

public import proofs.«01_k».proof.Proof.Outs
public import Idealize.ShloMosaic.Lib.MatmulPlain
public import Idealize.ShloMosaic.PureOps.Ideal.Laws

@[expose] public section

set_option maxRecDepth 100000

noncomputable section

namespace Cert.KernelIdeal.Gather

open Idealize.ShloMosaic Idealize.ShloMosaic.TcCoe Idealize.SL.RA Idealize.SL.Sem
open Idealize.ShloMosaic.ValueIdx
open Cert.KernelIdeal Cert.KernelIdeal.Gen

/-! ## A product's element -/

/-- A product of `n` rows with the matrix, rounded to bf16, as the payloads write it: over the extended reals its
    element at row `r`, column `j` is the sum of the products along the row and the column. -/
theorem prod_at {n : ℕ} (v : FVec Ideal ⟨2, ![n, 1024]⟩ .bf16) (b : FVec Ideal S1024x2048 .bf16)
    (hb : S1024x2048.ShapeCasts S1024x2048) (ho : (⟨2, ![n, 2048]⟩ : Shape).ShapeCasts ⟨2, ![n, 2048]⟩) (r : Fin n) (j : Fin 2048) :
    shapeCast ⟨2, ![n, 2048]⟩ (truncf .bf16 (matmul (DotDims.plain n 1024 2048) none v (shapeCast S1024x2048 b hb)
        (constant (F := Ideal) ⟨2, ![n, 2048]⟩ .f32 0x00000000#32)) bitsLt_bf16_f32) ho (ix2 r j)
      = ∑ k : Fin 1024, v (ix2 r k) * b (ix2 k j) := by
  rw [shapeCast_self, shapeCast_self]
  show FloatOps.matmul (DotDims.plain n 1024 2048) none v b _ (ix2 r j) = _
  rw [Ideal.matmul_plain_apply]
  show Ideal.ofBits .f32 0x00000000#32 + _ = _
  rw [Ideal.ofBits_zero_f32, zero_add]

/-- An element of a product of 688 of the device's own rows. -/
theorem pay1_at (v : FVec Ideal S688x1024 .bf16) (b : FVec Ideal S1024x2048 .bf16) (r : Fin 688) (j : Fin 2048) :
    k0_pay1 v b (ix2 r j) = ∑ k : Fin 1024, v (ix2 r k) * b (ix2 k j) := by
  have h := prod_at (n := 688) v b shapeCasts_S1024x2048_S1024x2048 shapeCasts_S688x2048_S688x2048 r j
  unfold k0_pay1
  rw [shapeCast_self v]
  exact h
/-- An element of a product of 672 of the device's own rows. -/
theorem pay4_at (v : FVec Ideal S672x1024 .bf16) (b : FVec Ideal S1024x2048 .bf16) (r : Fin 672) (j : Fin 2048) :
    k0_pay4 v b (ix2 r j) = ∑ k : Fin 1024, v (ix2 r k) * b (ix2 k j) := by
  have h := prod_at (n := 672) v b shapeCasts_S1024x2048_S1024x2048 shapeCasts_S672x2048_S672x2048 r j
  unfold k0_pay4
  rw [shapeCast_self v]
  exact h
/-- An element of a product of 688 rows of a slot. -/
theorem pay5_at (v : FVec Ideal S688x1024 .bf16) (b : FVec Ideal S1024x2048 .bf16) (r : Fin 688) (j : Fin 2048) :
    k0_pay5 v b (ix2 r j) = ∑ k : Fin 1024, v (ix2 r k) * b (ix2 k j) := prod_at (n := 688) v b _ _ r j
/-- An element of a product of 672 rows of a slot. -/
theorem pay7_at (v : FVec Ideal S672x1024 .bf16) (b : FVec Ideal S1024x2048 .bf16) (r : Fin 672) (j : Fin 2048) :
    k0_pay7 v b (ix2 r j) = ∑ k : Fin 1024, v (ix2 r k) * b (ix2 k j) := prod_at (n := 672) v b _ _ r j
/-- An element of a product of 344 rows of a slot. -/
theorem pay27_at (v : FVec Ideal S344x1024 .bf16) (b : FVec Ideal S1024x2048 .bf16) (r : Fin 344) (j : Fin 2048) :
    k0_pay27 v b (ix2 r j) = ∑ k : Fin 1024, v (ix2 r k) * b (ix2 k j) := prod_at (n := 344) v b _ _ r j
/-- An element of a product of 336 rows of a slot. -/
theorem pay29_at (v : FVec Ideal S336x1024 .bf16) (b : FVec Ideal S1024x2048 .bf16) (r : Fin 336) (j : Fin 2048) :
    k0_pay29 v b (ix2 r j) = ∑ k : Fin 1024, v (ix2 r k) * b (ix2 k j) := prod_at (n := 336) v b _ _ r j

/-! ## A piece of the result -/

variable (A : Dev nD → S2048x1024.Idx → Elt Ideal .bf16) (b : S1024x2048.Idx → Elt Ideal .bf16)

/-- The element of the product of the whole of `A`, its blocks one above another, with `b`. -/
def elem (R : Fin 16384) (j : Fin 2048) : EReal :=
  ∑ k : Fin 1024, A ⟨R.val / 2048, by have := R.isLt; show _ < 8; omega⟩ (ix2 ⟨R.val % 2048, Nat.mod_lt _ (by decide)⟩ k) * b (ix2 k j)

/-- An array whose rows from row `w` of block `d` on read as the products of those rows has the elements there. -/
theorem read_elem {n : ℕ} (off : Fin 2 → ℕ) (inb : ∀ a, off a + (⟨2, ![n, 2048]⟩ : Shape).size a ≤ S16384x2048.size a) (hr)
    (d : Dev nD) (w lo : ℕ) (hn : w + n ≤ 2048) (h0 : off 0 = lo) (hlo : lo = 2048 * d.val + w) (f : S16384x2048.Idx → Elt Ideal .bf16)
    (V : (⟨2, ![n, 2048]⟩ : Shape).Idx → Elt Ideal .bf16)
    (hV : ∀ (r : Fin n) (j : Fin 2048), V (ix2 r j) = ∑ k : Fin 1024, A d (ix2 ⟨w + r.val, lt_of_lt_of_le (Nat.add_lt_add_left r.isLt w) hn⟩ k) * b (ix2 k j))
    (h : (res.slice (Rect.unit (s := S16384x2048) off (⟨2, ![n, 2048]⟩ : Shape).size inb) hr).view.read (Elt Ideal) f = V)
    (R : Fin 16384) (j : Fin 2048) (hR : lo ≤ R.val) (hR' : R.val < lo + n) : f (ix2 R j) = elem A b R j := by
  have h1 : off 1 + 2048 ≤ 2048 := inb 1
  have hx := congrFun h (ix2 (⟨R.val - lo, by omega⟩ : Fin n) j)
  have he : (res.slice (Rect.unit (s := S16384x2048) off (⟨2, ![n, 2048]⟩ : Shape).size inb) hr).view.read (Elt Ideal) f (ix2 (⟨R.val - lo, by omega⟩ : Fin n) j)
      = f (ix2 R j) := by
    refine congrArg f (funext fun a => Fin.ext ?_)
    match a with
    | ⟨0, _⟩ => show off 0 + 1 * (R.val - lo) = R.val; omega
    | ⟨1, _⟩ => show off 1 + 1 * j.val = j.val; omega
  rw [← he, hx, hV]
  unfold elem
  have e1 : (⟨R.val / 2048, by have := R.isLt; show _ < 8; omega⟩ : Dev nD) = d := Fin.ext (by show R.val / 2048 = d.val; omega)
  have e2 : (⟨R.val % 2048, Nat.mod_lt _ (by decide)⟩ : Fin 2048) = ⟨w + (R.val - lo), by omega⟩ := Fin.ext (by show R.val % 2048 = w + (R.val - lo); omega)
  rw [e1, e2]

/-- A piece computed from the device's own rows. -/
theorem own_piece {n : ℕ} (w : ℕ) (hn : w + n ≤ 2048)
    (inb : ∀ a, (![w, 0] : Fin 2 → ℕ) a + (⟨2, ![n, 1024]⟩ : Shape).size a ≤ S2048x1024.size a) (hr)
    (inb' : ∀ a, (![0, 0] : Fin 2 → ℕ) a + (⟨2, ![n, 1024]⟩ : Shape).size a ≤ (⟨2, ![n, 1024]⟩ : Shape).size a) (c : Dev nD) (r : Fin n) (k : Fin 1024) :
    (blkA.slice (Rect.unit (s := S2048x1024) ![w, 0] (⟨2, ![n, 1024]⟩ : Shape).size inb) hr).view.readAt (Elt Ideal)
        (Rect.unit (s := ⟨2, ![n, 1024]⟩) ![0, 0] (⟨2, ![n, 1024]⟩ : Shape).size inb').toLoadRect (A c) (ix2 r k)
      = A c (ix2 ⟨w + r.val, lt_of_lt_of_le (Nat.add_lt_add_left r.isLt w) hn⟩ k) := by
  refine congrArg (A c) (funext fun a => Fin.ext ?_)
  match a with
  | ⟨0, _⟩ => show w + 1 * (0 + 1 * r.val) = w + r.val; omega
  | ⟨1, _⟩ => show 0 + 1 * (0 + 1 * k.val) = k.val; omega

/-- A piece computed from rows of a slot: they are rows of the block the slot holds. -/
theorem slot_piece {n k : ℕ} (M : Memref sig .tc .vmem ⟨3, ![8, n, 1024]⟩ .bf16) {offs : Fin 8 → Dev nD} {r0 : ℕ} (h : r0 + n ≤ 2048)
    (c : Dev nD) (r : ℕ) (inb) (hr) (hq : (⟨3, ![1, n, 1024]⟩ : Shape).Squeezes ⟨2, ![n, 1024]⟩) (f : M.view.ty.Contents (Elt Ideal))
    (hf : ∀ j, M.view.read (Elt Ideal) f j = gath offs r0 h A c j) (lo : ℕ)
    (inb' : ∀ a, (![lo, 0] : Fin 2 → ℕ) a + (⟨2, ![k, 1024]⟩ : Shape).size a ≤ (⟨2, ![n, 1024]⟩ : Shape).size a)
    (w : ℕ) (hw : r0 + lo = w) (hn : w + k ≤ 2048) (x : Fin k) (z : Fin 1024) :
    ((M.slice (Rect.unit (s := ⟨3, ![8, n, 1024]⟩) ![r, 0, 0] (⟨3, ![1, n, 1024]⟩ : Shape).size inb) hr).squeeze ⟨2, ![n, 1024]⟩ hq).view.readAt (Elt Ideal)
        (Rect.unit (s := ⟨2, ![n, 1024]⟩) ![lo, 0] (⟨2, ![k, 1024]⟩ : Shape).size inb').toLoadRect f (ix2 x z)
      = A (c ^^^ offs ⟨r, Nat.lt_of_succ_le (inb 0)⟩) (ix2 ⟨w + x.val, lt_of_lt_of_le (Nat.add_lt_add_left x.isLt w) hn⟩ z) := by
  have e := read_slot (F := Ideal) M r 0 inb hr hq f
    ((Rect.unit (s := ⟨2, ![n, 1024]⟩) ![lo, 0] (⟨2, ![k, 1024]⟩ : Shape).size inb').emb (ix2 x z))
  have e0 : ((Rect.unit (s := ⟨2, ![n, 1024]⟩) ![lo, 0] (⟨2, ![k, 1024]⟩ : Shape).size inb').emb (ix2 x z)) 1 = z :=
    Fin.ext (by show 0 + 1 * z.val = z.val; omega)
  refine e.trans ?_
  rw [hf, e0]
  exact gath_at rfl (by show r0 + (0 + (lo + 1 * x.val)) = w + x.val; omega)

end Cert.KernelIdeal.Gather

end
-- ==== Proof.Product.lean ====
/- What the result array holds over the extended reals: the whole product, on every device. -/
module

public import proofs.«01_k».proof.Proof.Values

@[expose] public section

set_option maxRecDepth 100000

noncomputable section

namespace Cert.KernelIdeal.Gather

open Idealize.ShloMosaic Idealize.ShloMosaic.TcCoe Idealize.SL.RA Idealize.SL.Sem
open Idealize.ShloMosaic.ValueIdx
open Cert.KernelIdeal Cert.KernelIdeal.Gen

variable (A : Dev nD → S2048x1024.Idx → Elt Ideal .bf16) (b : S1024x2048.Idx → Elt Ideal .bf16)

/-- Where an array holds piece `p`, it holds the elements of the whole product. -/
theorem piece_elem (p : Fin 27) (c : Dev nD) (f : S16384x2048.Idx → Elt Ideal .bf16)
    (h : (pc p).rd c f = pieceVal A (fun _ => b) c p) (R : Fin 16384) (j : Fin 2048) (hR : loOf c p ≤ R.val) (hR' : R.val < loOf c p + cntOf p) :
    f (ix2 R j) = elem A b R j := by
  revert h hR hR'
  revert p
  apply cases27 <;> intro h hR hR'
  · exact read_elem A b (k0_off1 c 0#32 0#32) (k0_off1_inb c 0) (fun _ => rfl) c 0 (loOf c 0) (by decide) (lo_eq c 0) ((by decide +kernel : ∀ c : Dev nD, loOf c 0 = 2048 * c.val + 0) c) f _
      (fun r j => (pay1_at _ b r j).trans (Finset.sum_congr rfl fun k _ => congrArg (· * b (ix2 k j)) (own_piece A 0 (by decide) _ (fun _ => rfl) inb_S688x1024_S688x1024_0_0 c r k))) h R j hR hR'
  · exact read_elem A b (k0_off1 c 1#32 0#32) (k0_off1_inb c 2) (fun _ => rfl) (c ^^^ offs0 1) 0 (loOf c 1) (by decide) (lo_eq c 1) ((by decide +kernel : ∀ c : Dev nD, loOf c 1 = 2048 * (c ^^^ offs0 1).val + 0) c) f _
      (fun r j => (pay5_at _ b r j).trans (Finset.sum_congr rfl fun k _ => congrArg (· * b (ix2 k j)) (slot_piece A gat0 (offs := offs0) (r0 := 0) (by decide) c 1 _ (fun _ => rfl) squeezes_S1x688x1024_S688x1024 (gatC0 A c) (fun _ => rfl) 0 inb_S688x1024_S688x1024_0_0 0 (by decide) (by decide) r k))) h R j hR hR'
  · exact read_elem A b (k0_off1 c 3#32 0#32) (k0_off1_inb c 4) (fun _ => rfl) (c ^^^ offs0 2) 0 (loOf c 2) (by decide) (lo_eq c 2) ((by decide +kernel : ∀ c : Dev nD, loOf c 2 = 2048 * (c ^^^ offs0 2).val + 0) c) f _
      (fun r j => (pay5_at _ b r j).trans (Finset.sum_congr rfl fun k _ => congrArg (· * b (ix2 k j)) (slot_piece A gat0 (offs := offs0) (r0 := 0) (by decide) c 2 _ (fun _ => rfl) squeezes_S1x688x1024_S688x1024 (gatC0 A c) (fun _ => rfl) 0 inb_S688x1024_S688x1024_0_0 0 (by decide) (by decide) r k))) h R j hR hR'
  · exact read_elem A b (k0_off1 c 2#32 0#32) (k0_off1_inb c 5) (fun _ => rfl) (c ^^^ offs0 3) 0 (loOf c 3) (by decide) (lo_eq c 3) ((by decide +kernel : ∀ c : Dev nD, loOf c 3 = 2048 * (c ^^^ offs0 3).val + 0) c) f _
      (fun r j => (pay5_at _ b r j).trans (Finset.sum_congr rfl fun k _ => congrArg (· * b (ix2 k j)) (slot_piece A gat0 (offs := offs0) (r0 := 0) (by decide) c 3 _ (fun _ => rfl) squeezes_S1x688x1024_S688x1024 (gatC0 A c) (fun _ => rfl) 0 inb_S688x1024_S688x1024_0_0 0 (by decide) (by decide) r k))) h R j hR hR'
  · exact read_elem A b (k0_off1 c 4#32 0#32) (k0_off1_inb c 8) (fun _ => rfl) (c ^^^ offs0 4) 0 (loOf c 4) (by decide) (lo_eq c 4) ((by decide +kernel : ∀ c : Dev nD, loOf c 4 = 2048 * (c ^^^ offs0 4).val + 0) c) f _
      (fun r j => (pay5_at _ b r j).trans (Finset.sum_congr rfl fun k _ => congrArg (· * b (ix2 k j)) (slot_piece A gat0 (offs := offs0) (r0 := 0) (by decide) c 4 _ (fun _ => rfl) squeezes_S1x688x1024_S688x1024 (gatC0 A c) (fun _ => rfl) 0 inb_S688x1024_S688x1024_0_0 0 (by decide) (by decide) r k))) h R j hR hR'
  · exact read_elem A b (k0_off1 c 5#32 0#32) (k0_off1_inb c 10) (fun _ => rfl) (c ^^^ offs0 5) 0 (loOf c 5) (by decide) (lo_eq c 5) ((by decide +kernel : ∀ c : Dev nD, loOf c 5 = 2048 * (c ^^^ offs0 5).val + 0) c) f _
      (fun r j => (pay5_at _ b r j).trans (Finset.sum_congr rfl fun k _ => congrArg (· * b (ix2 k j)) (slot_piece A gat0 (offs := offs0) (r0 := 0) (by decide) c 5 _ (fun _ => rfl) squeezes_S1x688x1024_S688x1024 (gatC0 A c) (fun _ => rfl) 0 inb_S688x1024_S688x1024_0_0 0 (by decide) (by decide) r k))) h R j hR hR'
  · exact read_elem A b (k0_off1 c 7#32 0#32) (k0_off1_inb c 12) (fun _ => rfl) (c ^^^ offs0 6) 0 (loOf c 6) (by decide) (lo_eq c 6) ((by decide +kernel : ∀ c : Dev nD, loOf c 6 = 2048 * (c ^^^ offs0 6).val + 0) c) f _
      (fun r j => (pay5_at _ b r j).trans (Finset.sum_congr rfl fun k _ => congrArg (· * b (ix2 k j)) (slot_piece A gat0 (offs := offs0) (r0 := 0) (by decide) c 6 _ (fun _ => rfl) squeezes_S1x688x1024_S688x1024 (gatC0 A c) (fun _ => rfl) 0 inb_S688x1024_S688x1024_0_0 0 (by decide) (by decide) r k))) h R j hR hR'
  · exact read_elem A b (k0_off3 c 0#32 0#32) (k0_off3_inb c 0 0) (fun _ => rfl) (c ^^^ offs0 7) 0 (loOf c 7) (by decide) (lo_eq c 7) ((by decide +kernel : ∀ c : Dev nD, loOf c 7 = 2048 * (c ^^^ offs0 7).val + 0) c) f _
      (fun r j => (pay27_at _ b r j).trans (Finset.sum_congr rfl fun k _ => congrArg (· * b (ix2 k j)) (slot_piece A gat0 (offs := offs0) (r0 := 0) (by decide) c 7 _ (fun _ => rfl) squeezes_S1x688x1024_S688x1024 (gatC0 A c) (fun _ => rfl) 0 inb_S688x1024_S344x1024_0_0 0 (by decide) (by decide) r k))) h R j hR hR'
  · exact read_elem A b (k0_off3 c 0#32 344#32) (k0_off3_inb c 0 1) (fun _ => rfl) (c ^^^ offs0 7) 344 (loOf c 8) (by decide) (lo_eq c 8) ((by decide +kernel : ∀ c : Dev nD, loOf c 8 = 2048 * (c ^^^ offs0 7).val + 344) c) f _
      (fun r j => (pay27_at _ b r j).trans (Finset.sum_congr rfl fun k _ => congrArg (· * b (ix2 k j)) (slot_piece A gat0 (offs := offs0) (r0 := 0) (by decide) c 7 _ (fun _ => rfl) squeezes_S1x688x1024_S688x1024 (gatC0 A c) (fun _ => rfl) 344 inb_S688x1024_S344x1024_344_0 344 (by decide) (by decide) r k))) h R j hR hR'
  · exact read_elem A b (k0_off1 c 0#32 688#32) (k0_off1_inb c 1) (fun _ => rfl) c 688 (loOf c 9) (by decide) (lo_eq c 9) ((by decide +kernel : ∀ c : Dev nD, loOf c 9 = 2048 * c.val + 688) c) f _
      (fun r j => (pay1_at _ b r j).trans (Finset.sum_congr rfl fun k _ => congrArg (· * b (ix2 k j)) (own_piece A 688 (by decide) _ (fun _ => rfl) inb_S688x1024_S688x1024_0_0 c r k))) h R j hR hR'
  · exact read_elem A b (k0_off1 c 3#32 688#32) (k0_off1_inb c 3) (fun _ => rfl) (c ^^^ offs1 1) 688 (loOf c 10) (by decide) (lo_eq c 10) ((by decide +kernel : ∀ c : Dev nD, loOf c 10 = 2048 * (c ^^^ offs1 1).val + 688) c) f _
      (fun r j => (pay5_at _ b r j).trans (Finset.sum_congr rfl fun k _ => congrArg (· * b (ix2 k j)) (slot_piece A gat1 (offs := offs1) (r0 := 688) (by decide) c 1 _ (fun _ => rfl) squeezes_S1x688x1024_S688x1024 (gatC1 A c) (fun _ => rfl) 0 inb_S688x1024_S688x1024_0_0 688 (by decide) (by decide) r k))) h R j hR hR'
  · exact read_elem A b (k0_off1 c 4#32 688#32) (k0_off1_inb c 6) (fun _ => rfl) (c ^^^ offs1 2) 688 (loOf c 11) (by decide) (lo_eq c 11) ((by decide +kernel : ∀ c : Dev nD, loOf c 11 = 2048 * (c ^^^ offs1 2).val + 688) c) f _
      (fun r j => (pay5_at _ b r j).trans (Finset.sum_congr rfl fun k _ => congrArg (· * b (ix2 k j)) (slot_piece A gat1 (offs := offs1) (r0 := 688) (by decide) c 2 _ (fun _ => rfl) squeezes_S1x688x1024_S688x1024 (gatC1 A c) (fun _ => rfl) 0 inb_S688x1024_S688x1024_0_0 688 (by decide) (by decide) r k))) h R j hR hR'
  · exact read_elem A b (k0_off1 c 7#32 688#32) (k0_off1_inb c 7) (fun _ => rfl) (c ^^^ offs1 3) 688 (loOf c 12) (by decide) (lo_eq c 12) ((by decide +kernel : ∀ c : Dev nD, loOf c 12 = 2048 * (c ^^^ offs1 3).val + 688) c) f _
      (fun r j => (pay5_at _ b r j).trans (Finset.sum_congr rfl fun k _ => congrArg (· * b (ix2 k j)) (slot_piece A gat1 (offs := offs1) (r0 := 688) (by decide) c 3 _ (fun _ => rfl) squeezes_S1x688x1024_S688x1024 (gatC1 A c) (fun _ => rfl) 0 inb_S688x1024_S688x1024_0_0 688 (by decide) (by decide) r k))) h R j hR hR'
  · exact read_elem A b (k0_off1 c 1#32 688#32) (k0_off1_inb c 9) (fun _ => rfl) (c ^^^ offs1 4) 688 (loOf c 13) (by decide) (lo_eq c 13) ((by decide +kernel : ∀ c : Dev nD, loOf c 13 = 2048 * (c ^^^ offs1 4).val + 688) c) f _
      (fun r j => (pay5_at _ b r j).trans (Finset.sum_congr rfl fun k _ => congrArg (· * b (ix2 k j)) (slot_piece A gat1 (offs := offs1) (r0 := 688) (by decide) c 4 _ (fun _ => rfl) squeezes_S1x688x1024_S688x1024 (gatC1 A c) (fun _ => rfl) 0 inb_S688x1024_S688x1024_0_0 688 (by decide) (by decide) r k))) h R j hR hR'
  · exact read_elem A b (k0_off1 c 2#32 688#32) (k0_off1_inb c 11) (fun _ => rfl) (c ^^^ offs1 5) 688 (loOf c 14) (by decide) (lo_eq c 14) ((by decide +kernel : ∀ c : Dev nD, loOf c 14 = 2048 * (c ^^^ offs1 5).val + 688) c) f _
      (fun r j => (pay5_at _ b r j).trans (Finset.sum_congr rfl fun k _ => congrArg (· * b (ix2 k j)) (slot_piece A gat1 (offs := offs1) (r0 := 688) (by decide) c 5 _ (fun _ => rfl) squeezes_S1x688x1024_S688x1024 (gatC1 A c) (fun _ => rfl) 0 inb_S688x1024_S688x1024_0_0 688 (by decide) (by decide) r k))) h R j hR hR'
  · exact read_elem A b (k0_off1 c 5#32 688#32) (k0_off1_inb c 13) (fun _ => rfl) (c ^^^ offs1 6) 688 (loOf c 15) (by decide) (lo_eq c 15) ((by decide +kernel : ∀ c : Dev nD, loOf c 15 = 2048 * (c ^^^ offs1 6).val + 688) c) f _
      (fun r j => (pay5_at _ b r j).trans (Finset.sum_congr rfl fun k _ => congrArg (· * b (ix2 k j)) (slot_piece A gat1 (offs := offs1) (r0 := 688) (by decide) c 6 _ (fun _ => rfl) squeezes_S1x688x1024_S688x1024 (gatC1 A c) (fun _ => rfl) 0 inb_S688x1024_S688x1024_0_0 688 (by decide) (by decide) r k))) h R j hR hR'
  · exact read_elem A b (k0_off3 c 688#32 0#32) (k0_off3_inb c 1 0) (fun _ => rfl) (c ^^^ offs1 7) 688 (loOf c 16) (by decide) (lo_eq c 16) ((by decide +kernel : ∀ c : Dev nD, loOf c 16 = 2048 * (c ^^^ offs1 7).val + 688) c) f _
      (fun r j => (pay27_at _ b r j).trans (Finset.sum_congr rfl fun k _ => congrArg (· * b (ix2 k j)) (slot_piece A gat1 (offs := offs1) (r0 := 688) (by decide) c 7 _ (fun _ => rfl) squeezes_S1x688x1024_S688x1024 (gatC1 A c) (fun _ => rfl) 0 inb_S688x1024_S344x1024_0_0 688 (by decide) (by decide) r k))) h R j hR hR'
  · exact read_elem A b (k0_off3 c 688#32 344#32) (k0_off3_inb c 1 1) (fun _ => rfl) (c ^^^ offs1 7) 1032 (loOf c 17) (by decide) (lo_eq c 17) ((by decide +kernel : ∀ c : Dev nD, loOf c 17 = 2048 * (c ^^^ offs1 7).val + 1032) c) f _
      (fun r j => (pay27_at _ b r j).trans (Finset.sum_congr rfl fun k _ => congrArg (· * b (ix2 k j)) (slot_piece A gat1 (offs := offs1) (r0 := 688) (by decide) c 7 _ (fun _ => rfl) squeezes_S1x688x1024_S688x1024 (gatC1 A c) (fun _ => rfl) 344 inb_S688x1024_S344x1024_344_0 1032 (by decide) (by decide) r k))) h R j hR hR'
  · exact read_elem A b (k0_off2 c 0#32) (k0_off2_inb c 0) (fun _ => rfl) c 1376 (loOf c 18) (by decide) (lo_eq c 18) ((by decide +kernel : ∀ c : Dev nD, loOf c 18 = 2048 * c.val + 1376) c) f _
      (fun r j => (pay4_at _ b r j).trans (Finset.sum_congr rfl fun k _ => congrArg (· * b (ix2 k j)) (own_piece A 1376 (by decide) _ (fun _ => rfl) inb_S672x1024_S672x1024_0_0 c r k))) h R j hR hR'
  · exact read_elem A b (k0_off2 c 4#32) (k0_off2_inb c 1) (fun _ => rfl) (c ^^^ offs2 1) 1376 (loOf c 19) (by decide) (lo_eq c 19) ((by decide +kernel : ∀ c : Dev nD, loOf c 19 = 2048 * (c ^^^ offs2 1).val + 1376) c) f _
      (fun r j => (pay7_at _ b r j).trans (Finset.sum_congr rfl fun k _ => congrArg (· * b (ix2 k j)) (slot_piece A gat2 (offs := offs2) (r0 := 1376) (by decide) c 1 _ (fun _ => rfl) squeezes_S1x672x1024_S672x1024 (gatC2 A c) (fun _ => rfl) 0 inb_S672x1024_S672x1024_0_0 1376 (by decide) (by decide) r k))) h R j hR hR'
  · exact read_elem A b (k0_off2 c 1#32) (k0_off2_inb c 2) (fun _ => rfl) (c ^^^ offs2 2) 1376 (loOf c 20) (by decide) (lo_eq c 20) ((by decide +kernel : ∀ c : Dev nD, loOf c 20 = 2048 * (c ^^^ offs2 2).val + 1376) c) f _
      (fun r j => (pay7_at _ b r j).trans (Finset.sum_congr rfl fun k _ => congrArg (· * b (ix2 k j)) (slot_piece A gat2 (offs := offs2) (r0 := 1376) (by decide) c 2 _ (fun _ => rfl) squeezes_S1x672x1024_S672x1024 (gatC2 A c) (fun _ => rfl) 0 inb_S672x1024_S672x1024_0_0 1376 (by decide) (by decide) r k))) h R j hR hR'
  · exact read_elem A b (k0_off2 c 5#32) (k0_off2_inb c 3) (fun _ => rfl) (c ^^^ offs2 3) 1376 (loOf c 21) (by decide) (lo_eq c 21) ((by decide +kernel : ∀ c : Dev nD, loOf c 21 = 2048 * (c ^^^ offs2 3).val + 1376) c) f _
      (fun r j => (pay7_at _ b r j).trans (Finset.sum_congr rfl fun k _ => congrArg (· * b (ix2 k j)) (slot_piece A gat2 (offs := offs2) (r0 := 1376) (by decide) c 3 _ (fun _ => rfl) squeezes_S1x672x1024_S672x1024 (gatC2 A c) (fun _ => rfl) 0 inb_S672x1024_S672x1024_0_0 1376 (by decide) (by decide) r k))) h R j hR hR'
  · exact read_elem A b (k0_off2 c 3#32) (k0_off2_inb c 4) (fun _ => rfl) (c ^^^ offs2 4) 1376 (loOf c 22) (by decide) (lo_eq c 22) ((by decide +kernel : ∀ c : Dev nD, loOf c 22 = 2048 * (c ^^^ offs2 4).val + 1376) c) f _
      (fun r j => (pay7_at _ b r j).trans (Finset.sum_congr rfl fun k _ => congrArg (· * b (ix2 k j)) (slot_piece A gat2 (offs := offs2) (r0 := 1376) (by decide) c 4 _ (fun _ => rfl) squeezes_S1x672x1024_S672x1024 (gatC2 A c) (fun _ => rfl) 0 inb_S672x1024_S672x1024_0_0 1376 (by decide) (by decide) r k))) h R j hR hR'
  · exact read_elem A b (k0_off2 c 7#32) (k0_off2_inb c 5) (fun _ => rfl) (c ^^^ offs2 5) 1376 (loOf c 23) (by decide) (lo_eq c 23) ((by decide +kernel : ∀ c : Dev nD, loOf c 23 = 2048 * (c ^^^ offs2 5).val + 1376) c) f _
      (fun r j => (pay7_at _ b r j).trans (Finset.sum_congr rfl fun k _ => congrArg (· * b (ix2 k j)) (slot_piece A gat2 (offs := offs2) (r0 := 1376) (by decide) c 5 _ (fun _ => rfl) squeezes_S1x672x1024_S672x1024 (gatC2 A c) (fun _ => rfl) 0 inb_S672x1024_S672x1024_0_0 1376 (by decide) (by decide) r k))) h R j hR hR'
  · exact read_elem A b (k0_off2 c 2#32) (k0_off2_inb c 6) (fun _ => rfl) (c ^^^ offs2 6) 1376 (loOf c 24) (by decide) (lo_eq c 24) ((by decide +kernel : ∀ c : Dev nD, loOf c 24 = 2048 * (c ^^^ offs2 6).val + 1376) c) f _
      (fun r j => (pay7_at _ b r j).trans (Finset.sum_congr rfl fun k _ => congrArg (· * b (ix2 k j)) (slot_piece A gat2 (offs := offs2) (r0 := 1376) (by decide) c 6 _ (fun _ => rfl) squeezes_S1x672x1024_S672x1024 (gatC2 A c) (fun _ => rfl) 0 inb_S672x1024_S672x1024_0_0 1376 (by decide) (by decide) r k))) h R j hR hR'
  · exact read_elem A b (k0_off4 c 0#32) (k0_off4_inb c 0) (fun _ => rfl) (c ^^^ offs2 7) 1376 (loOf c 25) (by decide) (lo_eq c 25) ((by decide +kernel : ∀ c : Dev nD, loOf c 25 = 2048 * (c ^^^ offs2 7).val + 1376) c) f _
      (fun r j => (pay29_at _ b r j).trans (Finset.sum_congr rfl fun k _ => congrArg (· * b (ix2 k j)) (slot_piece A gat2 (offs := offs2) (r0 := 1376) (by decide) c 7 _ (fun _ => rfl) squeezes_S1x672x1024_S672x1024 (gatC2 A c) (fun _ => rfl) 0 inb_S672x1024_S336x1024_0_0 1376 (by decide) (by decide) r k))) h R j hR hR'
  · exact read_elem A b (k0_off4 c 336#32) (k0_off4_inb c 1) (fun _ => rfl) (c ^^^ offs2 7) 1712 (loOf c 26) (by decide) (lo_eq c 26) ((by decide +kernel : ∀ c : Dev nD, loOf c 26 = 2048 * (c ^^^ offs2 7).val + 1712) c) f _
      (fun r j => (pay29_at _ b r j).trans (Finset.sum_congr rfl fun k _ => congrArg (· * b (ix2 k j)) (slot_piece A gat2 (offs := offs2) (r0 := 1376) (by decide) c 7 _ (fun _ => rfl) squeezes_S1x672x1024_S672x1024 (gatC2 A c) (fun _ => rfl) 336 inb_S672x1024_S336x1024_336_0 1712 (by decide) (by decide) r k))) h R j hR hR'

/-- An array that holds every piece holds the whole product. -/
theorem isOut_elem (c : Dev nD) (f : S16384x2048.Idx → Elt Ideal .bf16) (h : IsOut A (fun _ => b) c f) (R : Fin 16384) (j : Fin 2048) :
    f (ix2 R j) = elem A b R j := by
  obtain ⟨p, h1, h2⟩ := row_covered c R.val R.isLt
  exact piece_elem A b p c f (h p) R j h1 h2

end Cert.KernelIdeal.Gather

end
-- ==== Proof.RefValue.lean ====
/- What the reference computes over the extended reals: the product, element by element. -/
module

public import proofs.«01_k».proof.Proof.Gen.ReferenceIdeal.Run
public import Idealize.ShloMosaic.Lib.StackMember

@[expose] public section

noncomputable section

namespace Cert.ReferenceIdeal.Value

open Cert.ReferenceIdeal Cert.ReferenceIdeal.Gen Idealize.ShloMosaic Idealize.ShloMosaic.ValueIdx

/-- The reference's result of `X` and `Y`. -/
def product {F : FTy → Type} [FloatOps F] (X : S16384x1024.Idx → Elt F .bf16) (Y : S1024x2048.Idx → Elt F .bf16) : S16384x2048.Idx → Elt F .bf16 :=
  truncf .bf16 (Host.dotGeneral (φ₁ := .bf16) (φ₂ := .bf16) dot_S16384x1024_S1024x2048_S16384x2048_1_0_0_1_n_n none X Y) bitsLt_bf16_f32

/-- Over the extended reals its element at row `R`, column `j` is the sum of the products along the row and the column. -/
theorem product_at (X : S16384x1024.Idx → Elt Ideal .bf16) (Y : S1024x2048.Idx → Elt Ideal .bf16) (R : Fin 16384) (j : Fin 2048) :
    product X Y (ix2 R j) = ∑ k : Fin 1024, (X (ix2 R k) * Y (ix2 k j) : EReal) :=
  StackMember.dotGeneral_plain_apply (m := 16384) (k := 1024) (n := 2048) (φ₁ := .bf16) (φ₂ := .bf16) none X Y R j

end Cert.ReferenceIdeal.Value

end
-- ==== Proof.Equation.lean ====
/- The equation: what every device's result array holds is the reference's product of the whole arrays. -/
module

public import proofs.«01_k».proof.Proof.Product
public import proofs.«01_k».proof.Proof.RefValue
public import proofs.«01_k».proof.Proof.Run
public import Idealize.ShloMosaic.Lib.Layout

@[expose] public section

set_option maxRecDepth 100000

noncomputable section

namespace Cert.KernelIdeal.Gather

open Idealize.ShloMosaic Idealize.ShloMosaic.TcCoe Idealize.SL.RA Idealize.SL.Sem
open Idealize.ShloMosaic.ValueIdx
open Cert.KernelIdeal Cert.KernelIdeal.Gen

/-- A device's rows are staged whole. -/
theorem inA_eq {F : FTy → Type} (m : (ℓ : Loc nD τ sig) → Buf (Elt F) ℓ) (c : Dev nD) : inA m c = m ((c : Thread nD τ).loc main_arg0) := by
  funext i
  refine congrArg (m ((c : Thread nD τ).loc main_arg0)) (funext fun a => Fin.ext ?_)
  match a with
  | ⟨0, _⟩ => show 0 * 2048 + 1 * (i 0).val = (i 0).val; omega
  | ⟨1, _⟩ => show 0 * 1024 + 1 * (i 1).val = (i 1).val; omega

/-- So is its copy of the matrix. -/
theorem inB_eq {F : FTy → Type} (m : (ℓ : Loc nD τ sig) → Buf (Elt F) ℓ) (c : Dev nD) : inB m c = m ((c : Thread nD τ).loc main_arg1) := by
  funext i
  refine congrArg (m ((c : Thread nD τ).loc main_arg1)) (funext fun a => Fin.ext ?_)
  match a with
  | ⟨0, _⟩ => show 0 * 1024 + 1 * (i 0).val = (i 0).val; omega
  | ⟨1, _⟩ => show 0 * 2048 + 1 * (i 1).val = (i 1).val; omega

/-- An element of the product of the blocks is that element of the reference's product. -/
theorem elem_eq (X : Cert.ReferenceIdeal.S16384x1024.Idx → Elt Ideal .bf16) (Y : S1024x2048.Idx → Elt Ideal .bf16) (R : Fin 16384) (j : Fin 2048) :
    elem (fun c => Layout.block ⟨2, ![2048, 1024]⟩ ⟨2, ![16384, 1024]⟩ 0 8 c X) Y R j = Cert.ReferenceIdeal.Value.product X Y (ix2 R j) := by
  rw [Cert.ReferenceIdeal.Value.product_at]
  unfold elem
  refine Finset.sum_congr rfl fun k _ => congrArg (· * Y (ix2 k j)) (congrArg X (funext fun a => Fin.ext ?_))
  match a with
  | ⟨0, _⟩ => show R.val / 2048 * 2048 + R.val % 2048 = R.val; omega
  | ⟨1, _⟩ => rfl

/-- A result array that holds every piece, of blocks of `X` and copies of `Y`, is the reference's product of `X` and `Y`. -/
theorem result_eq (m : (ℓ : Loc nD τ sig) → Buf (Elt Ideal) ℓ) (X : Cert.ReferenceIdeal.S16384x1024.Idx → Elt Ideal .bf16) (Y : S1024x2048.Idx → Elt Ideal .bf16)
    (hX : ∀ c : Dev nD, m ((c : Thread nD τ).loc main_arg0) = Layout.block ⟨2, ![2048, 1024]⟩ ⟨2, ![16384, 1024]⟩ 0 8 c X)
    (hY : ∀ c : Dev nD, m ((c : Thread nD τ).loc main_arg1) = Y) (c : Dev nD) (f : S16384x2048.Idx → Elt Ideal .bf16)
    (h : IsOut (inA m) (inB m) c f) : f = Cert.ReferenceIdeal.Value.product X Y := by
  rw [show inA m = fun c => Layout.block ⟨2, ![2048, 1024]⟩ ⟨2, ![16384, 1024]⟩ 0 8 c X from funext fun c => (inA_eq m c).trans (hX c),
    show inB m = fun _ => Y from funext fun c => (inB_eq m c).trans (hY c)] at h
  funext i
  obtain ⟨R, j, rfl⟩ : ∃ (R : Fin 16384) (j : Fin 2048), i = ix2 R j := ⟨i 0, i 1, eq_ix2 i⟩
  exact (isOut_elem _ Y c f h R j).trans (elem_eq X Y R j)

end Cert.KernelIdeal.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The program and its idealization are one text: their bodies are equal, -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- and so are the calls made of them. -/
theorem calls_eq : Cert.Kernel.defs (F := Bits) = Cert.KernelIdeal.defs (F := Bits) := congrArg (Pipeline.defs _) bodies_eq

/-- The kernel, on bit patterns, runs to its end: its arguments unchanged, every counter at zero. -/
theorem frame_kernel : Cert.quiescent_Kernel := fun m ρ _ => by
  rw [calls_eq]
  exact (θ_run Cert.KernelIdeal.defs _ _).mono (fun _ h => ⟨fun c => (h.1 c).2, h.2⟩) (Cert.KernelIdeal.Gather.run_main (F := Bits) m ρ)

/-- So does the same text over the extended reals. -/
theorem frame_kernelIdeal : Cert.quiescent_KernelIdeal := fun m ρ _ =>
  (θ_run Cert.KernelIdeal.defs _ _).mono (fun _ h => ⟨fun c => (h.1 c).2, h.2⟩) (Cert.KernelIdeal.Gather.run_main (F := Ideal) m ρ)

/-- And the reference, which has no counter. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- Over the extended reals every device's result is the reference's, from blocks of the reference's first argument and
    copies of its second. -/
theorem result_agrees : Cert.algebraic_KernelIdeal_ReferenceIdeal := fun m ρ m' ρ' _ hin =>
  ⟨Cert.ReferenceIdeal.Value.product (F := Ideal) _ _,
    (θ_run Cert.KernelIdeal.defs _ _).mono
      (fun _ h c => ⟨Cert.KernelIdeal.Gather.result_eq m _ _ (fun c => (hin c).1) (fun c => (hin c).2) c _ (h.1 c).1, (h.1 c).2⟩)
      (Cert.KernelIdeal.Gather.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, result_agrees⟩

end Cert.Proof

end
